-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v342)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v342) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S300x2 : Shape := ⟨2, ![300, 2]⟩
abbrev S512x512 : Shape := ⟨2, ![512, 512]⟩
abbrev S44850 : Shape := ⟨1, ![44850]⟩
abbrev S13x2 : Shape := ⟨2, ![13, 2]⟩
abbrev S_ : Shape := ⟨0, ![]⟩
abbrev S44850x1 : Shape := ⟨2, ![44850, 1]⟩
abbrev S44850x2 : Shape := ⟨2, ![44850, 2]⟩
abbrev S63 : Shape := ⟨1, ![63]⟩
abbrev S1 : Shape := ⟨1, ![1]⟩
abbrev S64 : Shape := ⟨1, ![64]⟩
abbrev S1x64 : Shape := ⟨2, ![1, 64]⟩
abbrev S44850x64 : Shape := ⟨2, ![44850, 64]⟩
abbrev S10000x64 : Shape := ⟨2, ![10000, 64]⟩
abbrev S10000 : Shape := ⟨1, ![10000]⟩
abbrev S10000x1 : Shape := ⟨2, ![10000, 1]⟩
abbrev S10000x64x1 : Shape := ⟨3, ![10000, 64, 1]⟩
abbrev S10000x64x2 : Shape := ⟨3, ![10000, 64, 2]⟩
abbrev S10000x64x1x2 : Shape := ⟨4, ![10000, 64, 1, 2]⟩
abbrev S1x1x13x2 : Shape := ⟨4, ![1, 1, 13, 2]⟩
abbrev S10000x64x13x2 : Shape := ⟨4, ![10000, 64, 13, 2]⟩
abbrev S10000x64x13 : Shape := ⟨3, ![10000, 64, 13]⟩
abbrev S10000x64x13x1 : Shape := ⟨4, ![10000, 64, 13, 1]⟩
abbrev S4850x64 : Shape := ⟨2, ![4850, 64]⟩
abbrev S4850 : Shape := ⟨1, ![4850]⟩
abbrev S4850x1 : Shape := ⟨2, ![4850, 1]⟩
abbrev S4850x64x1 : Shape := ⟨3, ![4850, 64, 1]⟩
abbrev S4850x64x2 : Shape := ⟨3, ![4850, 64, 2]⟩
abbrev S4850x64x1x2 : Shape := ⟨4, ![4850, 64, 1, 2]⟩
abbrev S4850x64x13x2 : Shape := ⟨4, ![4850, 64, 13, 2]⟩
abbrev S4850x64x13 : Shape := ⟨3, ![4850, 64, 13]⟩
abbrev S4850x64x13x1 : Shape := ⟨4, ![4850, 64, 13, 1]⟩
abbrev S300x300 : Shape := ⟨2, ![300, 300]⟩

abbrev nBuf : Space → Nat
  | .hbm => 518
  | .vmem => 2
  | .smem => 0
  | _ => 0

abbrev hbmTy0_0 (i : Nat) : BufTy := match i % 128 with
  | 0 => ⟨S300x2, .f32⟩
  | 1 => ⟨S512x512, .f32⟩
  | 2 => ⟨S44850, .i32⟩
  | 3 => ⟨S44850, .i32⟩
  | 4 => ⟨S13x2, .f32⟩
  | 5 => ⟨S13x2, .f32⟩
  | 6 => ⟨S13x2, .f32⟩
  | 7 => ⟨S13x2, .f32⟩
  | 8 => ⟨S13x2, .f32⟩
  | 9 => ⟨S_, .i32⟩
  | 10 => ⟨S44850, .i32⟩
  | 11 => ⟨S44850, .i1⟩
  | 12 => ⟨S_, .i32⟩
  | 13 => ⟨S44850, .i32⟩
  | 14 => ⟨S44850, .i32⟩
  | 15 => ⟨S44850, .i32⟩
  | 16 => ⟨S44850x1, .i32⟩
  | 17 => ⟨S44850x2, .f32⟩
  | 18 => ⟨S_, .i32⟩
  | 19 => ⟨S44850, .i32⟩
  | 20 => ⟨S44850, .i1⟩
  | 21 => ⟨S_, .i32⟩
  | 22 => ⟨S44850, .i32⟩
  | 23 => ⟨S44850, .i32⟩
  | 24 => ⟨S44850, .i32⟩
  | 25 => ⟨S44850x1, .i32⟩
  | 26 => ⟨S44850x2, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S63, .f32⟩
  | 35 => ⟨S_, .f32⟩
  | 36 => ⟨S63, .f32⟩
  | 37 => ⟨S63, .f32⟩
  | 38 => ⟨S1, .f32⟩
  | 39 => ⟨S_, .f32⟩
  | 40 => ⟨S63, .f32⟩
  | 41 => ⟨S63, .f32⟩
  | 42 => ⟨S63, .f32⟩
  | 43 => ⟨S63, .f32⟩
  | 44 => ⟨S1, .f32⟩
  | 45 => ⟨S63, .f32⟩
  | 46 => ⟨S63, .f32⟩
  | 47 => ⟨S63, .f32⟩
  | 48 => ⟨S1, .f32⟩
  | 49 => ⟨S64, .f32⟩
  | 50 => ⟨S1x64, .f32⟩
  | 51 => ⟨S44850x1, .f32⟩
  | 52 => ⟨S44850x64, .f32⟩
  | 53 => ⟨S44850x64, .f32⟩
  | 54 => ⟨S44850x64, .f32⟩
  | 55 => ⟨S44850x1, .f32⟩
  | 56 => ⟨S_, .f32⟩
  | 57 => ⟨S1x64, .f32⟩
  | 58 => ⟨S1x64, .f32⟩
  | 59 => ⟨S44850x64, .f32⟩
  | 60 => ⟨S44850x64, .f32⟩
  | 61 => ⟨S44850x64, .f32⟩
  | 62 => ⟨S44850x64, .f32⟩
  | 63 => ⟨S44850x1, .f32⟩
  | 64 => ⟨S44850x64, .f32⟩
  | 65 => ⟨S44850x64, .f32⟩
  | 66 => ⟨S44850x64, .f32⟩
  | 67 => ⟨S44850x1, .f32⟩
  | 68 => ⟨S_, .f32⟩
  | 69 => ⟨S1x64, .f32⟩
  | 70 => ⟨S1x64, .f32⟩
  | 71 => ⟨S44850x64, .f32⟩
  | 72 => ⟨S44850x64, .f32⟩
  | 73 => ⟨S44850x64, .f32⟩
  | 74 => ⟨S44850x64, .f32⟩
  | 75 => ⟨S_, .f32⟩
  | 76 => ⟨S_, .i32⟩
  | 77 => ⟨S_, .f32⟩
  | 78 => ⟨S44850x64, .f32⟩
  | 79 => ⟨S44850x64, .f32⟩
  | 80 => ⟨S_, .f32⟩
  | 81 => ⟨S44850x64, .f32⟩
  | 82 => ⟨S44850x64, .f32⟩
  | 83 => ⟨S_, .f32⟩
  | 84 => ⟨S_, .i32⟩
  | 85 => ⟨S_, .f32⟩
  | 86 => ⟨S44850x64, .f32⟩
  | 87 => ⟨S44850x64, .f32⟩
  | 88 => ⟨S_, .f32⟩
  | 89 => ⟨S44850x64, .f32⟩
  | 90 => ⟨S44850x64, .f32⟩
  | 91 => ⟨S44850x2, .f32⟩
  | 92 => ⟨S44850x2, .f32⟩
  | 93 => ⟨S_, .f32⟩
  | 94 => ⟨S44850, .f32⟩
  | 95 => ⟨S44850, .f32⟩
  | 96 => ⟨S_, .f32⟩
  | 97 => ⟨S44850, .f32⟩
  | 98 => ⟨S44850, .f32⟩
  | 99 => ⟨S10000x64, .f32⟩
  | 100 => ⟨S10000x64, .f32⟩
  | 101 => ⟨S10000, .f32⟩
  | 102 => ⟨S_, .f32⟩
  | 103 => ⟨S10000, .f32⟩
  | 104 => ⟨S10000, .f32⟩
  | 105 => ⟨S_, .f32⟩
  | 106 => ⟨S10000, .f32⟩
  | 107 => ⟨S10000, .f32⟩
  | 108 => ⟨S10000x1, .f32⟩
  | 109 => ⟨S10000x64, .f32⟩
  | 110 => ⟨S10000x64x1, .f32⟩
  | 111 => ⟨S10000x64x1, .f32⟩
  | 112 => ⟨S10000x64x2, .f32⟩
  | 113 => ⟨S10000x64x2, .f32⟩
  | 114 => ⟨S10000x64x1x2, .f32⟩
  | 115 => ⟨S1x1x13x2, .f32⟩
  | 116 => ⟨S10000x64x13x2, .f32⟩
  | 117 => ⟨S10000x64x13x2, .f32⟩
  | 118 => ⟨S10000x64x13x2, .f32⟩
  | 119 => ⟨S10000x64x1x2, .f32⟩
  | 120 => ⟨S10000x64x13x2, .f32⟩
  | 121 => ⟨S10000x64x13x2, .f32⟩
  | 122 => ⟨S10000x64x13x2, .f32⟩
  | 123 => ⟨S_, .f32⟩
  | 124 => ⟨S10000x64x13, .f32⟩
  | 125 => ⟨S10000x64x13, .f32⟩
  | 126 => ⟨S10000x64x1, .f32⟩
  | 127 => ⟨S10000x64x13, .f32⟩
  | _ => ⟨S300x2, .f32⟩

abbrev hbmTy0_1 (i : Nat) : BufTy := match i % 128 with
  | 0 => ⟨S10000x64x13, .i1⟩
  | 1 => ⟨S10000x64x13x1, .f32⟩
  | 2 => ⟨S10000x64x13, .f32⟩
  | 3 => ⟨S_, .i32⟩
  | 4 => ⟨S_, .i32⟩
  | 5 => ⟨S_, .f32⟩
  | 6 => ⟨S10000x64x13, .f32⟩
  | 7 => ⟨S10000x64x13, .f32⟩
  | 8 => ⟨S_, .f32⟩
  | 9 => ⟨S10000x64x13, .f32⟩
  | 10 => ⟨S10000x64x13, .f32⟩
  | 11 => ⟨S10000x64x13, .i32⟩
  | 12 => ⟨S10000x64x13x1, .f32⟩
  | 13 => ⟨S10000x64x13, .f32⟩
  | 14 => ⟨S_, .i32⟩
  | 15 => ⟨S_, .i32⟩
  | 16 => ⟨S_, .f32⟩
  | 17 => ⟨S10000x64x13, .f32⟩
  | 18 => ⟨S10000x64x13, .f32⟩
  | 19 => ⟨S_, .f32⟩
  | 20 => ⟨S10000x64x13, .f32⟩
  | 21 => ⟨S10000x64x13, .f32⟩
  | 22 => ⟨S10000x64x13, .i32⟩
  | 23 => ⟨S_, .i32⟩
  | 24 => ⟨S10000x64x13, .i32⟩
  | 25 => ⟨S10000x64x13, .i1⟩
  | 26 => ⟨S_, .i32⟩
  | 27 => ⟨S10000x64x13, .i32⟩
  | 28 => ⟨S10000x64x13, .i32⟩
  | 29 => ⟨S10000x64x13, .i32⟩
  | 30 => ⟨S_, .i32⟩
  | 31 => ⟨S10000x64x13, .i32⟩
  | 32 => ⟨S10000x64x13, .i1⟩
  | 33 => ⟨S_, .i32⟩
  | 34 => ⟨S10000x64x13, .i32⟩
  | 35 => ⟨S10000x64x13, .i32⟩
  | 36 => ⟨S10000x64x13, .i32⟩
  | 37 => ⟨S10000x64x13x1, .i32⟩
  | 38 => ⟨S10000x64x13x1, .i32⟩
  | 39 => ⟨S10000x64x13x2, .i32⟩
  | 40 => ⟨S10000x64x13, .f32⟩
  | 41 => ⟨S10000x64x13, .f32⟩
  | 42 => ⟨S10000x64x13, .f32⟩
  | 43 => ⟨S_, .f32⟩
  | 44 => ⟨S10000x64, .f32⟩
  | 45 => ⟨S10000x64, .f32⟩
  | 46 => ⟨S10000x64, .f32⟩
  | 47 => ⟨S10000, .f32⟩
  | 48 => ⟨S_, .f32⟩
  | 49 => ⟨S10000, .f32⟩
  | 50 => ⟨S10000, .f32⟩
  | 51 => ⟨S_, .f32⟩
  | 52 => ⟨S10000, .f32⟩
  | 53 => ⟨S10000, .f32⟩
  | 54 => ⟨S10000x1, .f32⟩
  | 55 => ⟨S10000x64, .f32⟩
  | 56 => ⟨S10000x64x1, .f32⟩
  | 57 => ⟨S10000x64x1, .f32⟩
  | 58 => ⟨S10000x64x2, .f32⟩
  | 59 => ⟨S10000x64x2, .f32⟩
  | 60 => ⟨S10000x64x1x2, .f32⟩
  | 61 => ⟨S1x1x13x2, .f32⟩
  | 62 => ⟨S10000x64x13x2, .f32⟩
  | 63 => ⟨S10000x64x13x2, .f32⟩
  | 64 => ⟨S10000x64x13x2, .f32⟩
  | 65 => ⟨S10000x64x1x2, .f32⟩
  | 66 => ⟨S10000x64x13x2, .f32⟩
  | 67 => ⟨S10000x64x13x2, .f32⟩
  | 68 => ⟨S10000x64x13x2, .f32⟩
  | 69 => ⟨S_, .f32⟩
  | 70 => ⟨S10000x64x13, .f32⟩
  | 71 => ⟨S10000x64x13, .f32⟩
  | 72 => ⟨S10000x64x1, .f32⟩
  | 73 => ⟨S10000x64x13, .f32⟩
  | 74 => ⟨S10000x64x13, .i1⟩
  | 75 => ⟨S10000x64x13x1, .f32⟩
  | 76 => ⟨S10000x64x13, .f32⟩
  | 77 => ⟨S_, .i32⟩
  | 78 => ⟨S_, .i32⟩
  | 79 => ⟨S_, .f32⟩
  | 80 => ⟨S10000x64x13, .f32⟩
  | 81 => ⟨S10000x64x13, .f32⟩
  | 82 => ⟨S_, .f32⟩
  | 83 => ⟨S10000x64x13, .f32⟩
  | 84 => ⟨S10000x64x13, .f32⟩
  | 85 => ⟨S10000x64x13, .i32⟩
  | 86 => ⟨S10000x64x13x1, .f32⟩
  | 87 => ⟨S10000x64x13, .f32⟩
  | 88 => ⟨S_, .i32⟩
  | 89 => ⟨S_, .i32⟩
  | 90 => ⟨S_, .f32⟩
  | 91 => ⟨S10000x64x13, .f32⟩
  | 92 => ⟨S10000x64x13, .f32⟩
  | 93 => ⟨S_, .f32⟩
  | 94 => ⟨S10000x64x13, .f32⟩
  | 95 => ⟨S10000x64x13, .f32⟩
  | 96 => ⟨S10000x64x13, .i32⟩
  | 97 => ⟨S_, .i32⟩
  | 98 => ⟨S10000x64x13, .i32⟩
  | 99 => ⟨S10000x64x13, .i1⟩
  | 100 => ⟨S_, .i32⟩
  | 101 => ⟨S10000x64x13, .i32⟩
  | 102 => ⟨S10000x64x13, .i32⟩
  | 103 => ⟨S10000x64x13, .i32⟩
  | 104 => ⟨S_, .i32⟩
  | 105 => ⟨S10000x64x13, .i32⟩
  | 106 => ⟨S10000x64x13, .i1⟩
  | 107 => ⟨S_, .i32⟩
  | 108 => ⟨S10000x64x13, .i32⟩
  | 109 => ⟨S10000x64x13, .i32⟩
  | 110 => ⟨S10000x64x13, .i32⟩
  | 111 => ⟨S10000x64x13x1, .i32⟩
  | 112 => ⟨S10000x64x13x1, .i32⟩
  | 113 => ⟨S10000x64x13x2, .i32⟩
  | 114 => ⟨S10000x64x13, .f32⟩
  | 115 => ⟨S10000x64x13, .f32⟩
  | 116 => ⟨S10000x64x13, .f32⟩
  | 117 => ⟨S_, .f32⟩
  | 118 => ⟨S10000x64, .f32⟩
  | 119 => ⟨S10000x64, .f32⟩
  | 120 => ⟨S10000x64, .f32⟩
  | 121 => ⟨S10000, .f32⟩
  | 122 => ⟨S_, .f32⟩
  | 123 => ⟨S10000, .f32⟩
  | 124 => ⟨S10000, .f32⟩
  | 125 => ⟨S_, .f32⟩
  | 126 => ⟨S10000, .f32⟩
  | 127 => ⟨S10000, .f32⟩
  | _ => ⟨S300x2, .f32⟩

abbrev hbmTy0_2 (i : Nat) : BufTy := match i % 128 with
  | 0 => ⟨S10000x1, .f32⟩
  | 1 => ⟨S10000x64, .f32⟩
  | 2 => ⟨S10000x64x1, .f32⟩
  | 3 => ⟨S10000x64x1, .f32⟩
  | 4 => ⟨S10000x64x2, .f32⟩
  | 5 => ⟨S10000x64x2, .f32⟩
  | 6 => ⟨S10000x64x1x2, .f32⟩
  | 7 => ⟨S1x1x13x2, .f32⟩
  | 8 => ⟨S10000x64x13x2, .f32⟩
  | 9 => ⟨S10000x64x13x2, .f32⟩
  | 10 => ⟨S10000x64x13x2, .f32⟩
  | 11 => ⟨S10000x64x1x2, .f32⟩
  | 12 => ⟨S10000x64x13x2, .f32⟩
  | 13 => ⟨S10000x64x13x2, .f32⟩
  | 14 => ⟨S10000x64x13x2, .f32⟩
  | 15 => ⟨S_, .f32⟩
  | 16 => ⟨S10000x64x13, .f32⟩
  | 17 => ⟨S10000x64x13, .f32⟩
  | 18 => ⟨S10000x64x1, .f32⟩
  | 19 => ⟨S10000x64x13, .f32⟩
  | 20 => ⟨S10000x64x13, .i1⟩
  | 21 => ⟨S10000x64x13x1, .f32⟩
  | 22 => ⟨S10000x64x13, .f32⟩
  | 23 => ⟨S_, .i32⟩
  | 24 => ⟨S_, .i32⟩
  | 25 => ⟨S_, .f32⟩
  | 26 => ⟨S10000x64x13, .f32⟩
  | 27 => ⟨S10000x64x13, .f32⟩
  | 28 => ⟨S_, .f32⟩
  | 29 => ⟨S10000x64x13, .f32⟩
  | 30 => ⟨S10000x64x13, .f32⟩
  | 31 => ⟨S10000x64x13, .i32⟩
  | 32 => ⟨S10000x64x13x1, .f32⟩
  | 33 => ⟨S10000x64x13, .f32⟩
  | 34 => ⟨S_, .i32⟩
  | 35 => ⟨S_, .i32⟩
  | 36 => ⟨S_, .f32⟩
  | 37 => ⟨S10000x64x13, .f32⟩
  | 38 => ⟨S10000x64x13, .f32⟩
  | 39 => ⟨S_, .f32⟩
  | 40 => ⟨S10000x64x13, .f32⟩
  | 41 => ⟨S10000x64x13, .f32⟩
  | 42 => ⟨S10000x64x13, .i32⟩
  | 43 => ⟨S_, .i32⟩
  | 44 => ⟨S10000x64x13, .i32⟩
  | 45 => ⟨S10000x64x13, .i1⟩
  | 46 => ⟨S_, .i32⟩
  | 47 => ⟨S10000x64x13, .i32⟩
  | 48 => ⟨S10000x64x13, .i32⟩
  | 49 => ⟨S10000x64x13, .i32⟩
  | 50 => ⟨S_, .i32⟩
  | 51 => ⟨S10000x64x13, .i32⟩
  | 52 => ⟨S10000x64x13, .i1⟩
  | 53 => ⟨S_, .i32⟩
  | 54 => ⟨S10000x64x13, .i32⟩
  | 55 => ⟨S10000x64x13, .i32⟩
  | 56 => ⟨S10000x64x13, .i32⟩
  | 57 => ⟨S10000x64x13x1, .i32⟩
  | 58 => ⟨S10000x64x13x1, .i32⟩
  | 59 => ⟨S10000x64x13x2, .i32⟩
  | 60 => ⟨S10000x64x13, .f32⟩
  | 61 => ⟨S10000x64x13, .f32⟩
  | 62 => ⟨S10000x64x13, .f32⟩
  | 63 => ⟨S_, .f32⟩
  | 64 => ⟨S10000x64, .f32⟩
  | 65 => ⟨S10000x64, .f32⟩
  | 66 => ⟨S10000x64, .f32⟩
  | 67 => ⟨S10000, .f32⟩
  | 68 => ⟨S_, .f32⟩
  | 69 => ⟨S10000, .f32⟩
  | 70 => ⟨S10000, .f32⟩
  | 71 => ⟨S_, .f32⟩
  | 72 => ⟨S10000, .f32⟩
  | 73 => ⟨S10000, .f32⟩
  | 74 => ⟨S10000x1, .f32⟩
  | 75 => ⟨S10000x64, .f32⟩
  | 76 => ⟨S10000x64x1, .f32⟩
  | 77 => ⟨S10000x64x1, .f32⟩
  | 78 => ⟨S10000x64x2, .f32⟩
  | 79 => ⟨S10000x64x2, .f32⟩
  | 80 => ⟨S10000x64x1x2, .f32⟩
  | 81 => ⟨S1x1x13x2, .f32⟩
  | 82 => ⟨S10000x64x13x2, .f32⟩
  | 83 => ⟨S10000x64x13x2, .f32⟩
  | 84 => ⟨S10000x64x13x2, .f32⟩
  | 85 => ⟨S10000x64x1x2, .f32⟩
  | 86 => ⟨S10000x64x13x2, .f32⟩
  | 87 => ⟨S10000x64x13x2, .f32⟩
  | 88 => ⟨S10000x64x13x2, .f32⟩
  | 89 => ⟨S_, .f32⟩
  | 90 => ⟨S10000x64x13, .f32⟩
  | 91 => ⟨S10000x64x13, .f32⟩
  | 92 => ⟨S10000x64x1, .f32⟩
  | 93 => ⟨S10000x64x13, .f32⟩
  | 94 => ⟨S10000x64x13, .i1⟩
  | 95 => ⟨S10000x64x13x1, .f32⟩
  | 96 => ⟨S10000x64x13, .f32⟩
  | 97 => ⟨S_, .i32⟩
  | 98 => ⟨S_, .i32⟩
  | 99 => ⟨S_, .f32⟩
  | 100 => ⟨S10000x64x13, .f32⟩
  | 101 => ⟨S10000x64x13, .f32⟩
  | 102 => ⟨S_, .f32⟩
  | 103 => ⟨S10000x64x13, .f32⟩
  | 104 => ⟨S10000x64x13, .f32⟩
  | 105 => ⟨S10000x64x13, .i32⟩
  | 106 => ⟨S10000x64x13x1, .f32⟩
  | 107 => ⟨S10000x64x13, .f32⟩
  | 108 => ⟨S_, .i32⟩
  | 109 => ⟨S_, .i32⟩
  | 110 => ⟨S_, .f32⟩
  | 111 => ⟨S10000x64x13, .f32⟩
  | 112 => ⟨S10000x64x13, .f32⟩
  | 113 => ⟨S_, .f32⟩
  | 114 => ⟨S10000x64x13, .f32⟩
  | 115 => ⟨S10000x64x13, .f32⟩
  | 116 => ⟨S10000x64x13, .i32⟩
  | 117 => ⟨S_, .i32⟩
  | 118 => ⟨S10000x64x13, .i32⟩
  | 119 => ⟨S10000x64x13, .i1⟩
  | 120 => ⟨S_, .i32⟩
  | 121 => ⟨S10000x64x13, .i32⟩
  | 122 => ⟨S10000x64x13, .i32⟩
  | 123 => ⟨S10000x64x13, .i32⟩
  | 124 => ⟨S_, .i32⟩
  | 125 => ⟨S10000x64x13, .i32⟩
  | 126 => ⟨S10000x64x13, .i1⟩
  | 127 => ⟨S_, .i32⟩
  | _ => ⟨S300x2, .f32⟩

abbrev hbmTy0_3 (i : Nat) : BufTy := match i % 128 with
  | 0 => ⟨S10000x64x13, .i32⟩
  | 1 => ⟨S10000x64x13, .i32⟩
  | 2 => ⟨S10000x64x13, .i32⟩
  | 3 => ⟨S10000x64x13x1, .i32⟩
  | 4 => ⟨S10000x64x13x1, .i32⟩
  | 5 => ⟨S10000x64x13x2, .i32⟩
  | 6 => ⟨S10000x64x13, .f32⟩
  | 7 => ⟨S10000x64x13, .f32⟩
  | 8 => ⟨S10000x64x13, .f32⟩
  | 9 => ⟨S_, .f32⟩
  | 10 => ⟨S10000x64, .f32⟩
  | 11 => ⟨S4850x64, .f32⟩
  | 12 => ⟨S4850x64, .f32⟩
  | 13 => ⟨S4850, .f32⟩
  | 14 => ⟨S_, .f32⟩
  | 15 => ⟨S4850, .f32⟩
  | 16 => ⟨S4850, .f32⟩
  | 17 => ⟨S_, .f32⟩
  | 18 => ⟨S4850, .f32⟩
  | 19 => ⟨S4850, .f32⟩
  | 20 => ⟨S4850x1, .f32⟩
  | 21 => ⟨S4850x64, .f32⟩
  | 22 => ⟨S4850x64x1, .f32⟩
  | 23 => ⟨S4850x64x1, .f32⟩
  | 24 => ⟨S4850x64x2, .f32⟩
  | 25 => ⟨S4850x64x2, .f32⟩
  | 26 => ⟨S4850x64x1x2, .f32⟩
  | 27 => ⟨S1x1x13x2, .f32⟩
  | 28 => ⟨S4850x64x13x2, .f32⟩
  | 29 => ⟨S4850x64x13x2, .f32⟩
  | 30 => ⟨S4850x64x13x2, .f32⟩
  | 31 => ⟨S4850x64x1x2, .f32⟩
  | 32 => ⟨S4850x64x13x2, .f32⟩
  | 33 => ⟨S4850x64x13x2, .f32⟩
  | 34 => ⟨S4850x64x13x2, .f32⟩
  | 35 => ⟨S_, .f32⟩
  | 36 => ⟨S4850x64x13, .f32⟩
  | 37 => ⟨S4850x64x13, .f32⟩
  | 38 => ⟨S4850x64x1, .f32⟩
  | 39 => ⟨S4850x64x13, .f32⟩
  | 40 => ⟨S4850x64x13, .i1⟩
  | 41 => ⟨S4850x64x13x1, .f32⟩
  | 42 => ⟨S4850x64x13, .f32⟩
  | 43 => ⟨S_, .i32⟩
  | 44 => ⟨S_, .i32⟩
  | 45 => ⟨S_, .f32⟩
  | 46 => ⟨S4850x64x13, .f32⟩
  | 47 => ⟨S4850x64x13, .f32⟩
  | 48 => ⟨S_, .f32⟩
  | 49 => ⟨S4850x64x13, .f32⟩
  | 50 => ⟨S4850x64x13, .f32⟩
  | 51 => ⟨S4850x64x13, .i32⟩
  | 52 => ⟨S4850x64x13x1, .f32⟩
  | 53 => ⟨S4850x64x13, .f32⟩
  | 54 => ⟨S_, .i32⟩
  | 55 => ⟨S_, .i32⟩
  | 56 => ⟨S_, .f32⟩
  | 57 => ⟨S4850x64x13, .f32⟩
  | 58 => ⟨S4850x64x13, .f32⟩
  | 59 => ⟨S_, .f32⟩
  | 60 => ⟨S4850x64x13, .f32⟩
  | 61 => ⟨S4850x64x13, .f32⟩
  | 62 => ⟨S4850x64x13, .i32⟩
  | 63 => ⟨S_, .i32⟩
  | 64 => ⟨S4850x64x13, .i32⟩
  | 65 => ⟨S4850x64x13, .i1⟩
  | 66 => ⟨S_, .i32⟩
  | 67 => ⟨S4850x64x13, .i32⟩
  | 68 => ⟨S4850x64x13, .i32⟩
  | 69 => ⟨S4850x64x13, .i32⟩
  | 70 => ⟨S_, .i32⟩
  | 71 => ⟨S4850x64x13, .i32⟩
  | 72 => ⟨S4850x64x13, .i1⟩
  | 73 => ⟨S_, .i32⟩
  | 74 => ⟨S4850x64x13, .i32⟩
  | 75 => ⟨S4850x64x13, .i32⟩
  | 76 => ⟨S4850x64x13, .i32⟩
  | 77 => ⟨S4850x64x13x1, .i32⟩
  | 78 => ⟨S4850x64x13x1, .i32⟩
  | 79 => ⟨S4850x64x13x2, .i32⟩
  | 80 => ⟨S4850x64x13, .f32⟩
  | 81 => ⟨S4850x64x13, .f32⟩
  | 82 => ⟨S4850x64x13, .f32⟩
  | 83 => ⟨S_, .f32⟩
  | 84 => ⟨S4850x64, .f32⟩
  | 85 => ⟨S44850x64, .f32⟩
  | 86 => ⟨S_, .f32⟩
  | 87 => ⟨S44850, .f32⟩
  | 88 => ⟨S_, .f32⟩
  | 89 => ⟨S44850, .f32⟩
  | 90 => ⟨S44850, .f32⟩
  | 91 => ⟨S_, .f32⟩
  | 92 => ⟨S44850, .f32⟩
  | 93 => ⟨S44850, .i1⟩
  | 94 => ⟨S44850, .i32⟩
  | 95 => ⟨S_, .i32⟩
  | 96 => ⟨S300x300, .i32⟩
  | 97 => ⟨S_, .i32⟩
  | 98 => ⟨S44850, .i32⟩
  | 99 => ⟨S44850, .i1⟩
  | 100 => ⟨S_, .i32⟩
  | 101 => ⟨S44850, .i32⟩
  | 102 => ⟨S44850, .i32⟩
  | 103 => ⟨S44850, .i32⟩
  | 104 => ⟨S_, .i32⟩
  | 105 => ⟨S44850, .i32⟩
  | 106 => ⟨S44850, .i1⟩
  | 107 => ⟨S_, .i32⟩
  | 108 => ⟨S44850, .i32⟩
  | 109 => ⟨S44850, .i32⟩
  | 110 => ⟨S44850, .i32⟩
  | 111 => ⟨S44850x1, .i32⟩
  | 112 => ⟨S44850x1, .i32⟩
  | 113 => ⟨S44850x2, .i32⟩
  | 114 => ⟨S300x300, .i32⟩
  | 115 => ⟨S_, .i32⟩
  | 116 => ⟨S44850, .i32⟩
  | 117 => ⟨S44850, .i1⟩
  | 118 => ⟨S_, .i32⟩
  | 119 => ⟨S44850, .i32⟩
  | 120 => ⟨S44850, .i32⟩
  | 121 => ⟨S44850, .i32⟩
  | 122 => ⟨S_, .i32⟩
  | 123 => ⟨S44850, .i32⟩
  | 124 => ⟨S44850, .i1⟩
  | 125 => ⟨S_, .i32⟩
  | 126 => ⟨S44850, .i32⟩
  | 127 => ⟨S44850, .i32⟩
  | _ => ⟨S300x2, .f32⟩

abbrev hbmTy0_4 (i : Nat) : BufTy := match i % 128 with
  | 0 => ⟨S44850, .i32⟩
  | 1 => ⟨S44850x1, .i32⟩
  | 2 => ⟨S44850x1, .i32⟩
  | 3 => ⟨S44850x2, .i32⟩
  | 4 => ⟨S300x300, .i32⟩
  | 5 => ⟨S300x300, .i32⟩
  | _ => ⟨S300x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S300x2, .f32⟩

abbrev bufTy : (tb : Table) → Fin (tcTables nBuf tb) → BufTy
  | .hbm, ⟨i, _⟩ => hbmTy i
  | .local _ .vmem, ⟨0, _⟩ => ⟨S300x300, .i32⟩
  | .local _ .vmem, ⟨1, _⟩ => ⟨S300x300, .i32⟩
  | _, _ => ⟨S300x2, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_cst : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_cst_4 : Ref sig .tc := ⟨.hbm, 8, rfl⟩
abbrev main_c_5 : Ref sig .tc := ⟨.hbm, 9, rfl⟩
abbrev main_v0 : Ref sig .tc := ⟨.hbm, 10, rfl⟩
abbrev main_v1 : Ref sig .tc := ⟨.hbm, 11, rfl⟩
abbrev main_c_6 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_7 : Ref sig .tc := ⟨.hbm, 18, rfl⟩
abbrev main_v7 : Ref sig .tc := ⟨.hbm, 19, rfl⟩
abbrev main_v8 : Ref sig .tc := ⟨.hbm, 20, rfl⟩
abbrev main_c_8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_9 : Ref sig .tc := ⟨.hbm, 27, rfl⟩
abbrev main_cst_10 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_cst : Ref sig .tc := ⟨.hbm, 32, rfl⟩
abbrev main_call0_v3 : Ref sig .tc := ⟨.hbm, 33, rfl⟩
abbrev main_call0_v4 : Ref sig .tc := ⟨.hbm, 34, rfl⟩
abbrev main_call0_cst_0 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_v15 : Ref sig .tc := ⟨.hbm, 47, rfl⟩
abbrev main_call0_v16 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_11 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_12 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_13 : Ref sig .tc := ⟨.hbm, 75, rfl⟩
abbrev main_c_14 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v38 : Ref sig .tc := ⟨.hbm, 82, rfl⟩
abbrev main_cst_15 : Ref sig .tc := ⟨.hbm, 83, rfl⟩
abbrev main_c_16 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst_17 : Ref sig .tc := ⟨.hbm, 93, rfl⟩
abbrev main_v42 : Ref sig .tc := ⟨.hbm, 94, rfl⟩
abbrev main_v43 : Ref sig .tc := ⟨.hbm, 95, rfl⟩
abbrev main_cst_18 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_19 : Ref sig .tc := ⟨.hbm, 102, rfl⟩
abbrev main_v49 : Ref sig .tc := ⟨.hbm, 103, rfl⟩
abbrev main_v50 : Ref sig .tc := ⟨.hbm, 104, rfl⟩
abbrev main_cst_20 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_cst_21 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_c_22 : Ref sig .tc := ⟨.hbm, 131, rfl⟩
abbrev main_c_23 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_c_24 : Ref sig .tc := ⟨.hbm, 142, rfl⟩
abbrev main_c_25 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_v79 : Ref sig .tc := ⟨.hbm, 149, rfl⟩
abbrev main_v80 : Ref sig .tc := ⟨.hbm, 150, rfl⟩
abbrev main_c_26 : Ref sig .tc := ⟨.hbm, 151, rfl⟩
abbrev main_v81 : Ref sig .tc := ⟨.hbm, 152, rfl⟩
abbrev main_v82 : Ref sig .tc := ⟨.hbm, 153, rfl⟩
abbrev main_c_27 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_c_28 : Ref sig .tc := ⟨.hbm, 158, rfl⟩
abbrev main_v86 : Ref sig .tc := ⟨.hbm, 159, rfl⟩
abbrev main_v87 : Ref sig .tc := ⟨.hbm, 160, rfl⟩
abbrev main_c_29 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_cst_30 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_cst_31 : Ref sig .tc := ⟨.hbm, 176, rfl⟩
abbrev main_v101 : Ref sig .tc := ⟨.hbm, 177, rfl⟩
abbrev main_v102 : Ref sig .tc := ⟨.hbm, 178, rfl⟩
abbrev main_cst_32 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_cst_33 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_c_34 : Ref sig .tc := ⟨.hbm, 205, rfl⟩
abbrev main_c_35 : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_c_36 : Ref sig .tc := ⟨.hbm, 216, rfl⟩
abbrev main_c_37 : Ref sig .tc := ⟨.hbm, 217, rfl⟩
abbrev main_call8_v0 : Ref sig .tc := ⟨.hbm, 218, rfl⟩
abbrev main_call8_v1 : Ref sig .tc := ⟨.hbm, 219, rfl⟩
abbrev main_call8_v2 : Ref sig .tc := ⟨.hbm, 220, rfl⟩
abbrev main_call8_v3 : Ref sig .tc := ⟨.hbm, 221, rfl⟩
abbrev main_call8_v4 : Ref sig .tc := ⟨.hbm, 222, rfl⟩
abbrev main_v131 : Ref sig .tc := ⟨.hbm, 223, rfl⟩
abbrev main_v132 : Ref sig .tc := ⟨.hbm, 224, rfl⟩
abbrev main_c_38 : Ref sig .tc := ⟨.hbm, 225, rfl⟩
abbrev main_v133 : Ref sig .tc := ⟨.hbm, 226, rfl⟩
abbrev main_v134 : Ref sig .tc := ⟨.hbm, 227, rfl⟩
abbrev main_c_39 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_c_40 : Ref sig .tc := ⟨.hbm, 232, rfl⟩
abbrev main_v138 : Ref sig .tc := ⟨.hbm, 233, rfl⟩
abbrev main_v139 : Ref sig .tc := ⟨.hbm, 234, rfl⟩
abbrev main_c_41 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_42 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_cst_43 : Ref sig .tc := ⟨.hbm, 250, rfl⟩
abbrev main_v153 : Ref sig .tc := ⟨.hbm, 251, rfl⟩
abbrev main_v154 : Ref sig .tc := ⟨.hbm, 252, rfl⟩
abbrev main_cst_44 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_cst_45 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_c_46 : Ref sig .tc := ⟨.hbm, 279, rfl⟩
abbrev main_c_47 : Ref sig .tc := ⟨.hbm, 280, rfl⟩
abbrev main_call10_v0 : Ref sig .tc := ⟨.hbm, 281, rfl⟩
abbrev main_call10_v1 : Ref sig .tc := ⟨.hbm, 282, rfl⟩
abbrev main_call10_v2 : Ref sig .tc := ⟨.hbm, 283, rfl⟩
abbrev main_call10_v3 : Ref sig .tc := ⟨.hbm, 284, rfl⟩
abbrev main_call10_v4 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_c_48 : Ref sig .tc := ⟨.hbm, 290, rfl⟩
abbrev main_c_49 : Ref sig .tc := ⟨.hbm, 291, rfl⟩
abbrev main_call11_v0 : Ref sig .tc := ⟨.hbm, 292, rfl⟩
abbrev main_call11_v1 : Ref sig .tc := ⟨.hbm, 293, rfl⟩
abbrev main_call11_v2 : Ref sig .tc := ⟨.hbm, 294, rfl⟩
abbrev main_call11_v3 : Ref sig .tc := ⟨.hbm, 295, rfl⟩
abbrev main_call11_v4 : Ref sig .tc := ⟨.hbm, 296, rfl⟩
abbrev main_v183 : Ref sig .tc := ⟨.hbm, 297, rfl⟩
abbrev main_v184 : Ref sig .tc := ⟨.hbm, 298, rfl⟩
abbrev main_c_50 : Ref sig .tc := ⟨.hbm, 299, rfl⟩
abbrev main_v185 : Ref sig .tc := ⟨.hbm, 300, rfl⟩
abbrev main_v186 : Ref sig .tc := ⟨.hbm, 301, rfl⟩
abbrev main_c_51 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_c_52 : Ref sig .tc := ⟨.hbm, 306, rfl⟩
abbrev main_v190 : Ref sig .tc := ⟨.hbm, 307, rfl⟩
abbrev main_v191 : Ref sig .tc := ⟨.hbm, 308, rfl⟩
abbrev main_c_53 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_v200 : Ref sig .tc := ⟨.hbm, 318, rfl⟩
abbrev main_cst_54 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_cst_55 : Ref sig .tc := ⟨.hbm, 324, rfl⟩
abbrev main_v205 : Ref sig .tc := ⟨.hbm, 325, rfl⟩
abbrev main_v206 : Ref sig .tc := ⟨.hbm, 326, rfl⟩
abbrev main_cst_56 : Ref sig .tc := ⟨.hbm, 327, rfl⟩
abbrev main_v207 : Ref sig .tc := ⟨.hbm, 328, rfl⟩
abbrev main_v208 : Ref sig .tc := ⟨.hbm, 329, rfl⟩
abbrev main_v209 : Ref sig .tc := ⟨.hbm, 330, rfl⟩
abbrev main_v210 : Ref sig .tc := ⟨.hbm, 331, rfl⟩
abbrev main_v211 : Ref sig .tc := ⟨.hbm, 332, rfl⟩
abbrev main_v212 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_v216 : Ref sig .tc := ⟨.hbm, 337, rfl⟩
abbrev main_v217 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_cst_57 : Ref sig .tc := ⟨.hbm, 345, rfl⟩
abbrev main_v224 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩
abbrev main_c_58 : Ref sig .tc := ⟨.hbm, 353, rfl⟩
abbrev main_c_59 : Ref sig .tc := ⟨.hbm, 354, rfl⟩
abbrev main_call13_v0 : Ref sig .tc := ⟨.hbm, 355, rfl⟩
abbrev main_call13_v1 : Ref sig .tc := ⟨.hbm, 356, rfl⟩
abbrev main_call13_v2 : Ref sig .tc := ⟨.hbm, 357, rfl⟩
abbrev main_call13_v3 : Ref sig .tc := ⟨.hbm, 358, rfl⟩
abbrev main_call13_v4 : Ref sig .tc := ⟨.hbm, 359, rfl⟩
abbrev main_v231 : Ref sig .tc := ⟨.hbm, 360, rfl⟩
abbrev main_v232 : Ref sig .tc := ⟨.hbm, 361, rfl⟩
abbrev main_v233 : Ref sig .tc := ⟨.hbm, 362, rfl⟩
abbrev main_v234 : Ref sig .tc := ⟨.hbm, 363, rfl⟩
abbrev main_c_60 : Ref sig .tc := ⟨.hbm, 364, rfl⟩
abbrev main_c_61 : Ref sig .tc := ⟨.hbm, 365, rfl⟩
abbrev main_call14_v0 : Ref sig .tc := ⟨.hbm, 366, rfl⟩
abbrev main_call14_v1 : Ref sig .tc := ⟨.hbm, 367, rfl⟩
abbrev main_call14_v2 : Ref sig .tc := ⟨.hbm, 368, rfl⟩
abbrev main_call14_v3 : Ref sig .tc := ⟨.hbm, 369, rfl⟩
abbrev main_call14_v4 : Ref sig .tc := ⟨.hbm, 370, rfl⟩
abbrev main_v235 : Ref sig .tc := ⟨.hbm, 371, rfl⟩
abbrev main_v236 : Ref sig .tc := ⟨.hbm, 372, rfl⟩
abbrev main_c_62 : Ref sig .tc := ⟨.hbm, 373, rfl⟩
abbrev main_v237 : Ref sig .tc := ⟨.hbm, 374, rfl⟩
abbrev main_v238 : Ref sig .tc := ⟨.hbm, 375, rfl⟩
abbrev main_c_63 : Ref sig .tc := ⟨.hbm, 376, rfl⟩
abbrev main_v239 : Ref sig .tc := ⟨.hbm, 377, rfl⟩
abbrev main_v240 : Ref sig .tc := ⟨.hbm, 378, rfl⟩
abbrev main_v241 : Ref sig .tc := ⟨.hbm, 379, rfl⟩
abbrev main_c_64 : Ref sig .tc := ⟨.hbm, 380, rfl⟩
abbrev main_v242 : Ref sig .tc := ⟨.hbm, 381, rfl⟩
abbrev main_v243 : Ref sig .tc := ⟨.hbm, 382, rfl⟩
abbrev main_c_65 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_v247 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_v251 : Ref sig .tc := ⟨.hbm, 391, rfl⟩
abbrev main_v252 : Ref sig .tc := ⟨.hbm, 392, rfl⟩
abbrev main_cst_66 : Ref sig .tc := ⟨.hbm, 393, rfl⟩
abbrev main_v253 : Ref sig .tc := ⟨.hbm, 394, rfl⟩
abbrev main_v254 : Ref sig .tc := ⟨.hbm, 395, rfl⟩
abbrev main_v255 : Ref sig .tc := ⟨.hbm, 396, rfl⟩
abbrev main_v256 : Ref sig .tc := ⟨.hbm, 397, rfl⟩
abbrev main_cst_67 : Ref sig .tc := ⟨.hbm, 398, rfl⟩
abbrev main_v257 : Ref sig .tc := ⟨.hbm, 399, rfl⟩
abbrev main_v258 : Ref sig .tc := ⟨.hbm, 400, rfl⟩
abbrev main_cst_68 : Ref sig .tc := ⟨.hbm, 401, rfl⟩
abbrev main_v259 : Ref sig .tc := ⟨.hbm, 402, rfl⟩
abbrev main_v260 : Ref sig .tc := ⟨.hbm, 403, rfl⟩
abbrev main_v261 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_v267 : Ref sig .tc := ⟨.hbm, 410, rfl⟩
abbrev main_v268 : Ref sig .tc := ⟨.hbm, 411, rfl⟩
abbrev main_v269 : Ref sig .tc := ⟨.hbm, 412, rfl⟩
abbrev main_v270 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_v274 : Ref sig .tc := ⟨.hbm, 417, rfl⟩
abbrev main_v275 : Ref sig .tc := ⟨.hbm, 418, rfl⟩
abbrev main_cst_69 : Ref sig .tc := ⟨.hbm, 419, rfl⟩
abbrev main_v276 : Ref sig .tc := ⟨.hbm, 420, rfl⟩
abbrev main_v277 : Ref sig .tc := ⟨.hbm, 421, rfl⟩
abbrev main_v278 : Ref sig .tc := ⟨.hbm, 422, rfl⟩
abbrev main_v279 : Ref sig .tc := ⟨.hbm, 423, rfl⟩
abbrev main_v280 : Ref sig .tc := ⟨.hbm, 424, rfl⟩
abbrev main_v281 : Ref sig .tc := ⟨.hbm, 425, rfl⟩
abbrev main_v282 : Ref sig .tc := ⟨.hbm, 426, rfl⟩
abbrev main_c_70 : Ref sig .tc := ⟨.hbm, 427, rfl⟩
abbrev main_c_71 : Ref sig .tc := ⟨.hbm, 428, rfl⟩
abbrev main_call16_v0 : Ref sig .tc := ⟨.hbm, 429, rfl⟩
abbrev main_call16_v1 : Ref sig .tc := ⟨.hbm, 430, rfl⟩
abbrev main_call16_v2 : Ref sig .tc := ⟨.hbm, 431, rfl⟩
abbrev main_call16_v3 : Ref sig .tc := ⟨.hbm, 432, rfl⟩
abbrev main_call16_v4 : Ref sig .tc := ⟨.hbm, 433, rfl⟩
abbrev main_v283 : Ref sig .tc := ⟨.hbm, 434, rfl⟩
abbrev main_v284 : Ref sig .tc := ⟨.hbm, 435, rfl⟩
abbrev main_v285 : Ref sig .tc := ⟨.hbm, 436, rfl⟩
abbrev main_v286 : Ref sig .tc := ⟨.hbm, 437, rfl⟩
abbrev main_c_72 : Ref sig .tc := ⟨.hbm, 438, rfl⟩
abbrev main_c_73 : Ref sig .tc := ⟨.hbm, 439, rfl⟩
abbrev main_call17_v0 : Ref sig .tc := ⟨.hbm, 440, rfl⟩
abbrev main_call17_v1 : Ref sig .tc := ⟨.hbm, 441, rfl⟩
abbrev main_call17_v2 : Ref sig .tc := ⟨.hbm, 442, rfl⟩
abbrev main_call17_v3 : Ref sig .tc := ⟨.hbm, 443, rfl⟩
abbrev main_call17_v4 : Ref sig .tc := ⟨.hbm, 444, rfl⟩
abbrev main_v287 : Ref sig .tc := ⟨.hbm, 445, rfl⟩
abbrev main_v288 : Ref sig .tc := ⟨.hbm, 446, rfl⟩
abbrev main_c_74 : Ref sig .tc := ⟨.hbm, 447, rfl⟩
abbrev main_v289 : Ref sig .tc := ⟨.hbm, 448, rfl⟩
abbrev main_v290 : Ref sig .tc := ⟨.hbm, 449, rfl⟩
abbrev main_c_75 : Ref sig .tc := ⟨.hbm, 450, rfl⟩
abbrev main_v291 : Ref sig .tc := ⟨.hbm, 451, rfl⟩
abbrev main_v292 : Ref sig .tc := ⟨.hbm, 452, rfl⟩
abbrev main_v293 : Ref sig .tc := ⟨.hbm, 453, rfl⟩
abbrev main_c_76 : Ref sig .tc := ⟨.hbm, 454, rfl⟩
abbrev main_v294 : Ref sig .tc := ⟨.hbm, 455, rfl⟩
abbrev main_v295 : Ref sig .tc := ⟨.hbm, 456, rfl⟩
abbrev main_c_77 : Ref sig .tc := ⟨.hbm, 457, rfl⟩
abbrev main_v296 : Ref sig .tc := ⟨.hbm, 458, rfl⟩
abbrev main_v297 : Ref sig .tc := ⟨.hbm, 459, rfl⟩
abbrev main_v298 : Ref sig .tc := ⟨.hbm, 460, rfl⟩
abbrev main_v299 : Ref sig .tc := ⟨.hbm, 461, rfl⟩
abbrev main_v300 : Ref sig .tc := ⟨.hbm, 462, rfl⟩
abbrev main_v301 : Ref sig .tc := ⟨.hbm, 463, rfl⟩
abbrev main_v302 : Ref sig .tc := ⟨.hbm, 464, rfl⟩
abbrev main_v303 : Ref sig .tc := ⟨.hbm, 465, rfl⟩
abbrev main_v304 : Ref sig .tc := ⟨.hbm, 466, rfl⟩
abbrev main_cst_78 : Ref sig .tc := ⟨.hbm, 467, rfl⟩
abbrev main_v305 : Ref sig .tc := ⟨.hbm, 468, rfl⟩
abbrev main_v306 : Ref sig .tc := ⟨.hbm, 469, rfl⟩
abbrev main_cst_79 : Ref sig .tc := ⟨.hbm, 470, rfl⟩
abbrev main_v307 : Ref sig .tc := ⟨.hbm, 471, rfl⟩
abbrev main_cst_80 : Ref sig .tc := ⟨.hbm, 472, rfl⟩
abbrev main_v308 : Ref sig .tc := ⟨.hbm, 473, rfl⟩
abbrev main_v309 : Ref sig .tc := ⟨.hbm, 474, rfl⟩
abbrev main_cst_81 : Ref sig .tc := ⟨.hbm, 475, rfl⟩
abbrev main_v310 : Ref sig .tc := ⟨.hbm, 476, rfl⟩
abbrev main_v311 : Ref sig .tc := ⟨.hbm, 477, rfl⟩
abbrev main_v312 : Ref sig .tc := ⟨.hbm, 478, rfl⟩
abbrev main_c_82 : Ref sig .tc := ⟨.hbm, 479, rfl⟩
abbrev main_v313 : Ref sig .tc := ⟨.hbm, 480, rfl⟩
abbrev main_c_83 : Ref sig .tc := ⟨.hbm, 481, rfl⟩
abbrev main_v314 : Ref sig .tc := ⟨.hbm, 482, rfl⟩
abbrev main_v315 : Ref sig .tc := ⟨.hbm, 483, rfl⟩
abbrev main_c_84 : Ref sig .tc := ⟨.hbm, 484, rfl⟩
abbrev main_v316 : Ref sig .tc := ⟨.hbm, 485, rfl⟩
abbrev main_v317 : Ref sig .tc := ⟨.hbm, 486, rfl⟩
abbrev main_v318 : Ref sig .tc := ⟨.hbm, 487, rfl⟩
abbrev main_c_85 : Ref sig .tc := ⟨.hbm, 488, rfl⟩
abbrev main_v319 : Ref sig .tc := ⟨.hbm, 489, rfl⟩
abbrev main_v320 : Ref sig .tc := ⟨.hbm, 490, rfl⟩
abbrev main_c_86 : Ref sig .tc := ⟨.hbm, 491, rfl⟩
abbrev main_v321 : Ref sig .tc := ⟨.hbm, 492, rfl⟩
abbrev main_v322 : Ref sig .tc := ⟨.hbm, 493, rfl⟩
abbrev main_v323 : Ref sig .tc := ⟨.hbm, 494, rfl⟩
abbrev main_v324 : Ref sig .tc := ⟨.hbm, 495, rfl⟩
abbrev main_v325 : Ref sig .tc := ⟨.hbm, 496, rfl⟩
abbrev main_v326 : Ref sig .tc := ⟨.hbm, 497, rfl⟩
abbrev main_v327 : Ref sig .tc := ⟨.hbm, 498, rfl⟩
abbrev main_c_87 : Ref sig .tc := ⟨.hbm, 499, rfl⟩
abbrev main_v328 : Ref sig .tc := ⟨.hbm, 500, rfl⟩
abbrev main_v329 : Ref sig .tc := ⟨.hbm, 501, rfl⟩
abbrev main_c_88 : Ref sig .tc := ⟨.hbm, 502, rfl⟩
abbrev main_v330 : Ref sig .tc := ⟨.hbm, 503, rfl⟩
abbrev main_v331 : Ref sig .tc := ⟨.hbm, 504, rfl⟩
abbrev main_v332 : Ref sig .tc := ⟨.hbm, 505, rfl⟩
abbrev main_c_89 : Ref sig .tc := ⟨.hbm, 506, rfl⟩
abbrev main_v333 : Ref sig .tc := ⟨.hbm, 507, rfl⟩
abbrev main_v334 : Ref sig .tc := ⟨.hbm, 508, rfl⟩
abbrev main_c_90 : Ref sig .tc := ⟨.hbm, 509, rfl⟩
abbrev main_v335 : Ref sig .tc := ⟨.hbm, 510, rfl⟩
abbrev main_v336 : Ref sig .tc := ⟨.hbm, 511, rfl⟩
abbrev main_v337 : Ref sig .tc := ⟨.hbm, 512, rfl⟩
abbrev main_v338 : Ref sig .tc := ⟨.hbm, 513, rfl⟩
abbrev main_v339 : Ref sig .tc := ⟨.hbm, 514, rfl⟩
abbrev main_v340 : Ref sig .tc := ⟨.hbm, 515, rfl⟩
abbrev main_v341 : Ref sig .tc := ⟨.hbm, 516, rfl⟩
abbrev main_v342 : Ref sig .tc := ⟨.hbm, 517, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S300x300 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S300x300 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S300x2 : Shape := ⟨2, ![300, 2]⟩
abbrev S512x512 : Shape := ⟨2, ![512, 512]⟩
abbrev S13 : Shape := ⟨1, ![13]⟩
abbrev S300x1x2 : Shape := ⟨3, ![300, 1, 2]⟩
abbrev S1x300x2 : Shape := ⟨3, ![1, 300, 2]⟩
abbrev S_ : Shape := ⟨0, ![]⟩
abbrev S63 : Shape := ⟨1, ![63]⟩
abbrev S1 : Shape := ⟨1, ![1]⟩
abbrev S64 : Shape := ⟨1, ![64]⟩
abbrev S300x1x1 : Shape := ⟨3, ![300, 1, 1]⟩
abbrev S1x1x64 : Shape := ⟨3, ![1, 1, 64]⟩
abbrev S300x1x64 : Shape := ⟨3, ![300, 1, 64]⟩
abbrev S1x300x1 : Shape := ⟨3, ![1, 300, 1]⟩
abbrev S1x300x64 : Shape := ⟨3, ![1, 300, 64]⟩
abbrev S300x300x64 : Shape := ⟨3, ![300, 300, 64]⟩
abbrev S300x300x2 : Shape := ⟨3, ![300, 300, 2]⟩
abbrev S300x300 : Shape := ⟨2, ![300, 300]⟩
abbrev S300x300x64x1 : Shape := ⟨4, ![300, 300, 64, 1]⟩
abbrev S1x1x1x13 : Shape := ⟨4, ![1, 1, 1, 13]⟩
abbrev S300x300x64x13 : Shape := ⟨4, ![300, 300, 64, 13]⟩
abbrev S300x300x1x1 : Shape := ⟨4, ![300, 300, 1, 1]⟩
abbrev S300x300x64x13x1 : Shape := ⟨5, ![300, 300, 64, 13, 1]⟩
abbrev S300x300x64x13x2 : Shape := ⟨5, ![300, 300, 64, 13, 2]⟩
abbrev S300 : Shape := ⟨1, ![300]⟩
abbrev S300x1 : Shape := ⟨2, ![300, 1]⟩
abbrev S1x300 : Shape := ⟨2, ![1, 300]⟩

abbrev nBuf : Space → Nat
  | .hbm => 179
  | .vmem => 0
  | .smem => 0
  | _ => 0

abbrev hbmTy0_0 (i : Nat) : BufTy := match i % 128 with
  | 0 => ⟨S300x2, .f32⟩
  | 1 => ⟨S512x512, .f32⟩
  | 2 => ⟨S13, .f32⟩
  | 3 => ⟨S13, .f32⟩
  | 4 => ⟨S300x1x2, .f32⟩
  | 5 => ⟨S1x300x2, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S63, .f32⟩
  | 14 => ⟨S_, .f32⟩
  | 15 => ⟨S63, .f32⟩
  | 16 => ⟨S63, .f32⟩
  | 17 => ⟨S1, .f32⟩
  | 18 => ⟨S_, .f32⟩
  | 19 => ⟨S63, .f32⟩
  | 20 => ⟨S63, .f32⟩
  | 21 => ⟨S63, .f32⟩
  | 22 => ⟨S63, .f32⟩
  | 23 => ⟨S1, .f32⟩
  | 24 => ⟨S63, .f32⟩
  | 25 => ⟨S63, .f32⟩
  | 26 => ⟨S63, .f32⟩
  | 27 => ⟨S1, .f32⟩
  | 28 => ⟨S64, .f32⟩
  | 29 => ⟨S300x1x1, .f32⟩
  | 30 => ⟨S1x1x64, .f32⟩
  | 31 => ⟨S300x1x64, .f32⟩
  | 32 => ⟨S300x1x64, .f32⟩
  | 33 => ⟨S300x1x64, .f32⟩
  | 34 => ⟨S1x300x1, .f32⟩
  | 35 => ⟨S_, .f32⟩
  | 36 => ⟨S64, .f32⟩
  | 37 => ⟨S64, .f32⟩
  | 38 => ⟨S1x1x64, .f32⟩
  | 39 => ⟨S1x300x64, .f32⟩
  | 40 => ⟨S1x300x64, .f32⟩
  | 41 => ⟨S1x300x64, .f32⟩
  | 42 => ⟨S300x300x64, .f32⟩
  | 43 => ⟨S300x300x64, .f32⟩
  | 44 => ⟨S300x300x64, .f32⟩
  | 45 => ⟨S_, .f32⟩
  | 46 => ⟨S_, .i32⟩
  | 47 => ⟨S_, .f32⟩
  | 48 => ⟨S300x300x64, .f32⟩
  | 49 => ⟨S300x300x64, .f32⟩
  | 50 => ⟨S_, .f32⟩
  | 51 => ⟨S300x300x64, .f32⟩
  | 52 => ⟨S300x300x64, .f32⟩
  | 53 => ⟨S300x1x1, .f32⟩
  | 54 => ⟨S1x1x64, .f32⟩
  | 55 => ⟨S300x1x64, .f32⟩
  | 56 => ⟨S300x1x64, .f32⟩
  | 57 => ⟨S300x1x64, .f32⟩
  | 58 => ⟨S1x300x1, .f32⟩
  | 59 => ⟨S_, .f32⟩
  | 60 => ⟨S64, .f32⟩
  | 61 => ⟨S64, .f32⟩
  | 62 => ⟨S1x1x64, .f32⟩
  | 63 => ⟨S1x300x64, .f32⟩
  | 64 => ⟨S1x300x64, .f32⟩
  | 65 => ⟨S1x300x64, .f32⟩
  | 66 => ⟨S300x300x64, .f32⟩
  | 67 => ⟨S300x300x64, .f32⟩
  | 68 => ⟨S300x300x64, .f32⟩
  | 69 => ⟨S_, .f32⟩
  | 70 => ⟨S_, .i32⟩
  | 71 => ⟨S_, .f32⟩
  | 72 => ⟨S300x300x64, .f32⟩
  | 73 => ⟨S300x300x64, .f32⟩
  | 74 => ⟨S_, .f32⟩
  | 75 => ⟨S300x300x64, .f32⟩
  | 76 => ⟨S300x300x64, .f32⟩
  | 77 => ⟨S300x300x2, .f32⟩
  | 78 => ⟨S300x300x2, .f32⟩
  | 79 => ⟨S300x300x2, .f32⟩
  | 80 => ⟨S300x300x2, .f32⟩
  | 81 => ⟨S_, .f32⟩
  | 82 => ⟨S300x300, .f32⟩
  | 83 => ⟨S300x300, .f32⟩
  | 84 => ⟨S_, .f32⟩
  | 85 => ⟨S300x300, .f32⟩
  | 86 => ⟨S300x300, .f32⟩
  | 87 => ⟨S_, .f32⟩
  | 88 => ⟨S300x300, .f32⟩
  | 89 => ⟨S300x300, .f32⟩
  | 90 => ⟨S_, .f32⟩
  | 91 => ⟨S300x300, .f32⟩
  | 92 => ⟨S300x300, .f32⟩
  | 93 => ⟨S300x300x64, .f32⟩
  | 94 => ⟨S300x300x64x1, .f32⟩
  | 95 => ⟨S1x1x1x13, .f32⟩
  | 96 => ⟨S300x300x64x13, .f32⟩
  | 97 => ⟨S300x300x64x13, .f32⟩
  | 98 => ⟨S300x300x64x13, .f32⟩
  | 99 => ⟨S300x300x64, .f32⟩
  | 100 => ⟨S300x300x64x1, .f32⟩
  | 101 => ⟨S1x1x1x13, .f32⟩
  | 102 => ⟨S300x300x64x13, .f32⟩
  | 103 => ⟨S300x300x64x13, .f32⟩
  | 104 => ⟨S300x300x64x13, .f32⟩
  | 105 => ⟨S300x300x64x1, .f32⟩
  | 106 => ⟨S300x300x64x13, .f32⟩
  | 107 => ⟨S300x300x64x13, .f32⟩
  | 108 => ⟨S300x300x64x13, .f32⟩
  | 109 => ⟨S300x300x64x1, .f32⟩
  | 110 => ⟨S300x300x64x13, .f32⟩
  | 111 => ⟨S300x300x64x13, .f32⟩
  | 112 => ⟨S300x300x64x13, .f32⟩
  | 113 => ⟨S300x300x64x13, .f32⟩
  | 114 => ⟨S300x300x64x13, .f32⟩
  | 115 => ⟨S300x300x1x1, .f32⟩
  | 116 => ⟨S300x300x64x13, .f32⟩
  | 117 => ⟨S300x300x64x13, .i1⟩
  | 118 => ⟨S_, .i32⟩
  | 119 => ⟨S_, .i32⟩
  | 120 => ⟨S_, .f32⟩
  | 121 => ⟨S300x300x64x13, .f32⟩
  | 122 => ⟨S300x300x64x13, .f32⟩
  | 123 => ⟨S_, .f32⟩
  | 124 => ⟨S300x300x64x13, .f32⟩
  | 125 => ⟨S300x300x64x13, .f32⟩
  | 126 => ⟨S300x300x64x13, .i32⟩
  | 127 => ⟨S_, .i32⟩
  | _ => ⟨S300x2, .f32⟩

abbrev hbmTy0_1 (i : Nat) : BufTy := match i % 128 with
  | 0 => ⟨S_, .i32⟩
  | 1 => ⟨S_, .f32⟩
  | 2 => ⟨S300x300x64x13, .f32⟩
  | 3 => ⟨S300x300x64x13, .f32⟩
  | 4 => ⟨S_, .f32⟩
  | 5 => ⟨S300x300x64x13, .f32⟩
  | 6 => ⟨S300x300x64x13, .f32⟩
  | 7 => ⟨S300x300x64x13, .i32⟩
  | 8 => ⟨S_, .i32⟩
  | 9 => ⟨S300x300x64x13, .i32⟩
  | 10 => ⟨S300x300x64x13, .i1⟩
  | 11 => ⟨S_, .i32⟩
  | 12 => ⟨S300x300x64x13, .i32⟩
  | 13 => ⟨S300x300x64x13, .i32⟩
  | 14 => ⟨S300x300x64x13, .i32⟩
  | 15 => ⟨S_, .i32⟩
  | 16 => ⟨S300x300x64x13, .i32⟩
  | 17 => ⟨S300x300x64x13, .i1⟩
  | 18 => ⟨S_, .i32⟩
  | 19 => ⟨S300x300x64x13, .i32⟩
  | 20 => ⟨S300x300x64x13, .i32⟩
  | 21 => ⟨S300x300x64x13, .i32⟩
  | 22 => ⟨S300x300x64x13x1, .i32⟩
  | 23 => ⟨S300x300x64x13x1, .i32⟩
  | 24 => ⟨S300x300x64x13x2, .i32⟩
  | 25 => ⟨S300x300x64x13, .f32⟩
  | 26 => ⟨S300x300x64x13, .f32⟩
  | 27 => ⟨S300x300x64x13, .f32⟩
  | 28 => ⟨S_, .f32⟩
  | 29 => ⟨S300x300x64, .f32⟩
  | 30 => ⟨S_, .f32⟩
  | 31 => ⟨S300x300, .f32⟩
  | 32 => ⟨S_, .f32⟩
  | 33 => ⟨S300x300, .f32⟩
  | 34 => ⟨S300x300, .f32⟩
  | 35 => ⟨S_, .f32⟩
  | 36 => ⟨S300x300, .f32⟩
  | 37 => ⟨S300x300, .i1⟩
  | 38 => ⟨S300x300, .i32⟩
  | 39 => ⟨S300, .i32⟩
  | 40 => ⟨S300x1, .i32⟩
  | 41 => ⟨S1x300, .i32⟩
  | 42 => ⟨S300x300, .i32⟩
  | 43 => ⟨S300x300, .i32⟩
  | 44 => ⟨S300x300, .i1⟩
  | 45 => ⟨S_, .i32⟩
  | 46 => ⟨S_, .i32⟩
  | 47 => ⟨S300x300, .i32⟩
  | 48 => ⟨S300x300, .i32⟩
  | 49 => ⟨S300x300, .i32⟩
  | 50 => ⟨S300x300, .i32⟩
  | _ => ⟨S300x2, .f32⟩

abbrev hbmTy (i : Nat) : BufTy := match i / 128 with
  | 0 => hbmTy0_0 i
  | 1 => hbmTy0_1 i
  | _ => ⟨S300x2, .f32⟩

abbrev bufTy : (tb : Table) → Fin (tcTables nBuf tb) → BufTy
  | .hbm, ⟨i, _⟩ => hbmTy i
  | _, _ => ⟨S300x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_cst_2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_4 : Ref sig .tc := ⟨.hbm, 45, rfl⟩
abbrev main_c : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_6 : Ref sig .tc := ⟨.hbm, 69, rfl⟩
abbrev main_c_7 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_8 : Ref sig .tc := ⟨.hbm, 81, rfl⟩
abbrev main_v39 : Ref sig .tc := ⟨.hbm, 82, rfl⟩
abbrev main_v40 : Ref sig .tc := ⟨.hbm, 83, rfl⟩
abbrev main_cst_9 : Ref sig .tc := ⟨.hbm, 84, rfl⟩
abbrev main_v41 : Ref sig .tc := ⟨.hbm, 85, rfl⟩
abbrev main_v42 : Ref sig .tc := ⟨.hbm, 86, rfl⟩
abbrev main_cst_10 : Ref sig .tc := ⟨.hbm, 87, rfl⟩
abbrev main_v43 : Ref sig .tc := ⟨.hbm, 88, rfl⟩
abbrev main_v44 : Ref sig .tc := ⟨.hbm, 89, rfl⟩
abbrev main_cst_11 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_12 : Ref sig .tc := ⟨.hbm, 118, rfl⟩
abbrev main_c_13 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_v72 : Ref sig .tc := ⟨.hbm, 125, rfl⟩
abbrev main_v73 : Ref sig .tc := ⟨.hbm, 126, rfl⟩
abbrev main_c_14 : Ref sig .tc := ⟨.hbm, 127, rfl⟩
abbrev main_c_15 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_v74 : Ref sig .tc := ⟨.hbm, 134, rfl⟩
abbrev main_v75 : Ref sig .tc := ⟨.hbm, 135, rfl⟩
abbrev main_c_16 : Ref sig .tc := ⟨.hbm, 136, rfl⟩
abbrev main_v76 : Ref sig .tc := ⟨.hbm, 137, rfl⟩
abbrev main_v77 : Ref sig .tc := ⟨.hbm, 138, rfl⟩
abbrev main_c_17 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_c_18 : Ref sig .tc := ⟨.hbm, 143, rfl⟩
abbrev main_v81 : Ref sig .tc := ⟨.hbm, 144, rfl⟩
abbrev main_v82 : Ref sig .tc := ⟨.hbm, 145, rfl⟩
abbrev main_c_19 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_cst_20 : Ref sig .tc := ⟨.hbm, 156, rfl⟩
abbrev main_v92 : Ref sig .tc := ⟨.hbm, 157, rfl⟩
abbrev main_cst_21 : Ref sig .tc := ⟨.hbm, 158, rfl⟩
abbrev main_v93 : Ref sig .tc := ⟨.hbm, 159, rfl⟩
abbrev main_cst_22 : Ref sig .tc := ⟨.hbm, 160, rfl⟩
abbrev main_v94 : Ref sig .tc := ⟨.hbm, 161, rfl⟩
abbrev main_v95 : Ref sig .tc := ⟨.hbm, 162, rfl⟩
abbrev main_cst_23 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_c_24 : Ref sig .tc := ⟨.hbm, 173, rfl⟩
abbrev main_call7_v0 : Ref sig .tc := ⟨.hbm, 174, rfl⟩
abbrev main_call7_v1 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩

abbrev nD : Nat := 1
abbrev τ : Topo := Topo.v7x

variable {F : FTy → Type} [FloatOps F]
-- ==== Proof.Spec.lean ====
module

public import Idealize.ShloMosaic.Lib.Tactic
public import Idealize.ShloMosaic.Lib.Pointwise

@[expose] public section

noncomputable section

namespace Cert.Wireframe

open Idealize.ShloMosaic

/-- A gather of single elements of a 512 × 512 array by pairs of index words, read at one place `j`: the element at the two words, each read signed and
    clamped to the array. `p0` and `p1` are the places of the two words. -/
theorem gather_pair {α : Type} {si t : Shape} (d : GatherDims ⟨2, ![512, 512]⟩ si t) (hc : d.collapsedSliceDims = [0, 1])
    (hb : d.operandBatchingDims = []) (hm : d.startIndexMap = [0, 1]) (x : (⟨2, ![512, 512]⟩ : Shape).Idx → α) (idx : IVec si 32) (j : t.Idx)
    (p0 p1 : si.Idx) (h0 : ∀ k, k.val = 0 → d.siIdx j k = p0) (h1 : ∀ k, k.val = 1 → d.siIdx j k = p1) :
    Host.gather d x idx j = x (ix2 ⟨min (idx p0).toInt.toNat 511, by omega⟩ ⟨min (idx p1).toInt.toNat 511, by omega⟩) := by
  unfold Host.gather
  refine congrArg x (funext fun a => Fin.ext ?_)
  show d.start j idx a + d.batchCoord j a + d.offCoord j a = _
  have ha : a = 0 ∨ a = 1 := by
    match a with
    | ⟨0, _⟩ => exact Or.inl rfl
    | ⟨1, _⟩ => exact Or.inr rfl
  have hs : a ∈ d.startIndexMap := by rw [hm]; rcases ha with rfl | rfl <;> decide
  have hcol : a ∈ d.collapsedSliceDims := by rw [hc]; rcases ha with rfl | rfl <;> decide
  rw [d.batchCoord_eq_zero _ _ (by rw [hb]; exact List.not_mem_nil), d.offCoord_eq_zero _ _ fun h => ((d.mem_sKept _).1 h).1 hcol]
  unfold GatherDims.start
  rw [dif_pos hs, d.slice_collapsed a hcol]
  rcases ha with rfl | rfl
  · rw [h0 _ (by show List.idxOf _ _ = 0; rw [hm]; rfl)]; rfl
  · rw [h1 _ (by show List.idxOf _ _ = 1; rw [hm]; rfl)]; rfl

/-- The nearest integer, halves to even. -/
def near (x : EReal) : EReal := Ideal.liftRound Ideal.roundHalfEven x

/-- The index word of a coordinate: cut to 0 … 511, made an integer, and a negative word moved up by 512. -/
def word (x : EReal) : BitVec 32 :=
  Scalar.select (IntOp.cmpi .slt (FloatOps.fptosi (F := Ideal) (φ := .f32) 32 (min (FloatOps.sitofp (F := Ideal) .f32 511#32) (max (FloatOps.sitofp (F := Ideal) .f32 0#32) x))) 0#32)
    (IntOp.addi (FloatOps.fptosi (F := Ideal) (φ := .f32) 32 (min (FloatOps.sitofp (F := Ideal) .f32 511#32) (max (FloatOps.sitofp (F := Ideal) .f32 0#32) x))) 512#32)
    (FloatOps.fptosi (F := Ideal) (φ := .f32) 32 (min (FloatOps.sitofp (F := Ideal) .f32 511#32) (max (FloatOps.sitofp (F := Ideal) .f32 0#32) x)))

/-- The heat map at two index words, each read signed and clamped. -/
def heat (M : (⟨2, ![512, 512]⟩ : Shape).Idx → EReal) (a b : BitVec 32) : EReal :=
  M (ix2 ⟨min a.toInt.toNat 511, by omega⟩ ⟨min b.toInt.toNat 511, by omega⟩)

/-- One point of the patch round the sample `(h, w)`, the point's offsets being `a` and `b`: the heat map there, times 1 if the point is nearer to the sample
    than `rad`, else times 0. -/
def point (M : (⟨2, ![512, 512]⟩ : Shape).Idx → EReal) (h w rad a b : EReal) : EReal :=
  heat M (word (near h + a)) (word (near w + b))
    * FloatOps.uitofp (F := Ideal) .f32
        (BitVec.ofBool (decide (Ideal.sqrt ((h - (near h + a)) * (h - (near h + a)) + (w - (near w + b)) * (w - (near w + b))) < rad)))

/-- The feature of the sample `(h, w)`: the greatest value over the 13 points of its patch, whose offsets are `O`. -/
def feature (M : (⟨2, ![512, 512]⟩ : Shape).Idx → EReal) (O : Fin 13 → Fin 2 → EReal) (h w rad : EReal) : EReal :=
  Finset.univ.fold max (Ideal.ofBits .f32 0xFF800000#32) fun p : Fin 13 => point M h w rad (O p 0) (O p 1)

/-- One coordinate of the `s`-th sample of a line, the coordinate being `a` at its start and `b` at its end: between the two by `T s`, cut to 0 … 511. -/
def spot (T : Fin 64 → EReal) (a b : EReal) (s : Fin 64) : EReal :=
  min (FloatOps.sitofp (F := Ideal) .f32 511#32) (max (Ideal.ofBits .f32 0x00000000#32) (a * T s + b * (1 - T s)))

/-- The length of the line from junction `a` to junction `b`, relative to the image's diagonal. -/
def length (x : (⟨2, ![300, 2]⟩ : Shape).Idx → EReal) (a b : Fin 300) : EReal :=
  Ideal.div (Ideal.sqrt (∑ q : Fin 2, (x (ix2 a q) - x (ix2 b q)) * (x (ix2 a q) - x (ix2 b q)))) (Ideal.ofBits .f32 0x443504F3#32)

/-- The radius round the samples of the line from junction `a` to junction `b`. -/
def radius (x : (⟨2, ![300, 2]⟩ : Shape).Idx → EReal) (a b : Fin 300) : EReal :=
  Ideal.ofBits .f32 0x3F3504F3#32 + Ideal.ofBits .f32 0x40000000#32 * length x a b

/-- Is a line found? 1 if the mean of its 64 features `y` is over a half, else 0. -/
def found (y : Fin 64 → EReal) : BitVec 32 :=
  BitVec.setWidth 32 (BitVec.ofBool (decide (Ideal.ofBits .f32 0x3F000000#32 < Ideal.div (∑ s, y s) (Ideal.ofBits .f32 0x42800000#32))))

/-- The verdict on the line from junction `a` to junction `b`. -/
def verdict (x : (⟨2, ![300, 2]⟩ : Shape).Idx → EReal) (M : (⟨2, ![512, 512]⟩ : Shape).Idx → EReal) (O : Fin 13 → Fin 2 → EReal) (T : Fin 64 → EReal)
    (a b : Fin 300) : BitVec 32 :=
  found fun s => feature M O (spot T (x (ix2 a 0)) (x (ix2 b 0)) s) (spot T (x (ix2 a 1)) (x (ix2 b 1)) s) (radius x a b)

/-- The map of all lines: each pair of different junctions has its verdict, taken from the smaller to the greater number; the diagonal has none. -/
def lines (v : Fin 300 → Fin 300 → BitVec 32) (i j : Fin 300) : BitVec 32 :=
  if i < j then v i j else if j < i then v j i else 0#32

end Cert.Wireframe
-- ==== Proof.Dense.lean ====
module

public import proofs.«01_k».proof.Proof.Gen.ReferenceIdeal.Run
public import Idealize.ShloMosaic.Lib.Tactic
public import Idealize.ShloMosaic.Lib.Pointwise
public import proofs.«01_k».proof.Proof.Spec

@[expose] public section

noncomputable section

namespace Cert.Wireframe

open Idealize.ShloMosaic Cert.ReferenceIdeal Cert.ReferenceIdeal.Value Cert.ReferenceIdeal.Gen

/-! # The reference's arrays

The reference works on all pairs of junctions at once. Its result is put together from the arrays named here. -/

/-- The 64 places of the samples along a line, from 0 to 1. -/
def ticks : FVec Ideal S64 .f32 :=
  concatenate S64 0
    [⟨S63, addf
        (mulf (broadcastInDim S63 ![0] bcast_S1_S63_0 (shapeCast S1 (id (constant S_ .f32 0x00000000#32)) shapeCasts_S_S1))
          (subf (broadcastInDim S63 ![] bcast_S_S63 (constant S_ .f32 0x3F800000#32))
            (Host.divf (sitofp .f32 (iotaInDim S63 32 0)) (broadcastInDim S63 ![] bcast_S_S63 (constant S_ .f32 0x427C0000#32)))))
        (mulf (broadcastInDim S63 ![0] bcast_S1_S63_0 (shapeCast S1 (id (constant S_ .f32 0x3F800000#32)) shapeCasts_S_S1))
          (Host.divf (sitofp .f32 (iotaInDim S63 32 0)) (broadcastInDim S63 ![] bcast_S_S63 (constant S_ .f32 0x427C0000#32))))⟩,
      ⟨S1, broadcastInDim S1 ![] bcast_S_S1 (id (constant S_ .f32 0x3F800000#32))⟩]
    concatenates_S63_S1_S64_d0

/-- One coordinate of the samples of all lines, from that coordinate of the lines' starts and of their ends. -/
def dots (u : FVec Ideal S300x1x1 .f32) (v : FVec Ideal S1x300x1 .f32) : FVec Ideal S300x300x64 .f32 :=
  minimumf (broadcastInDim S300x300x64 ![] bcast_S_S300x300x64 (sitofp .f32 (constantI S_ 32 511#32)))
    (maximumf (broadcastInDim S300x300x64 ![] bcast_S_S300x300x64 (id (constant S_ .f32 0x00000000#32)))
      (addf
        (broadcastInDim S300x300x64 ![0, 1, 2] bcast_S300x1x64_S300x300x64_0_1_2
          (mulf (broadcastInDim S300x1x64 ![0, 1, 2] bcast_S300x1x1_S300x1x64_0_1_2 u)
            (broadcastInDim S300x1x64 ![0, 1, 2] bcast_S1x1x64_S300x1x64_0_1_2 (broadcastInDim S1x1x64 ![2] bcast_S64_S1x1x64_2 ticks))))
        (broadcastInDim S300x300x64 ![0, 1, 2] bcast_S1x300x64_S300x300x64_0_1_2
          (mulf (broadcastInDim S1x300x64 ![0, 1, 2] bcast_S1x300x1_S1x300x64_0_1_2 v)
            (broadcastInDim S1x300x64 ![0, 1, 2] bcast_S1x1x64_S1x300x64_0_1_2
              (broadcastInDim S1x1x64 ![2] bcast_S64_S1x1x64_2 (subf (broadcastInDim S64 ![] bcast_S_S64 (constant S_ .f32 0x3F800000#32)) ticks)))))))

/-- The junctions along the first axis. -/
def starts (x : FVec Ideal S300x2 .f32) : FVec Ideal S300x1x2 .f32 := broadcastInDim S300x1x2 ![0, 2] bcast_S300x2_S300x1x2_0_2 x

/-- The junctions along the second axis. -/
def ends (x : FVec Ideal S300x2 .f32) : FVec Ideal S1x300x2 .f32 := broadcastInDim S1x300x2 ![1, 2] bcast_S300x2_S1x300x2_1_2 x

/-- The first coordinate of the samples of all lines. -/
def dotsH (x : FVec Ideal S300x2 .f32) : FVec Ideal S300x300x64 .f32 :=
  dots (extractStridedSlice S300x1x1 ![0, 0, 0] (starts x) slices_S300x1x2_S300x1x1_0_0_0) (extractStridedSlice S1x300x1 ![0, 0, 0] (ends x) slices_S1x300x2_S1x300x1_0_0_0)

/-- The second coordinate of the samples of all lines. -/
def dotsW (x : FVec Ideal S300x2 .f32) : FVec Ideal S300x300x64 .f32 :=
  dots (extractStridedSlice S300x1x1 ![0, 0, 1] (starts x) slices_S300x1x2_S300x1x1_0_0_1) (extractStridedSlice S1x300x1 ![0, 0, 1] (ends x) slices_S1x300x2_S1x300x1_0_0_1)

/-- The lines' lengths relative to the image's diagonal. -/
def lengths (x : FVec Ideal S300x2 .f32) : FVec Ideal S300x300 .f32 :=
  Host.divf
    (Host.sqrt (Host.reduceAdd
      (mulf
        (subf (broadcastInDim S300x300x2 ![0, 1, 2] bcast_S300x1x2_S300x300x2_0_1_2 (starts x)) (broadcastInDim S300x300x2 ![0, 1, 2] bcast_S1x300x2_S300x300x2_0_1_2 (ends x)))
        (subf (broadcastInDim S300x300x2 ![0, 1, 2] bcast_S300x1x2_S300x300x2_0_1_2 (starts x)) (broadcastInDim S300x300x2 ![0, 1, 2] bcast_S1x300x2_S300x300x2_0_1_2 (ends x))))
      (constant S_ .f32 0x00000000#32) reducesTo_S300x300x2_S300x300_d2 h_S_))
    (broadcastInDim S300x300 ![] bcast_S_S300x300 (constant S_ .f32 0x443504F3#32))

/-- The lines' radii, one for every point. -/
def reach (len : FVec Ideal S300x300 .f32) : FVec Ideal S300x300x64x13 .f32 :=
  broadcastInDim S300x300x64x13 ![0, 1, 2, 3] bcast_S300x300x1x1_S300x300x64x13_0_1_2_3
    (broadcastInDim S300x300x1x1 ![0, 1] bcast_S300x300_S300x300x1x1_0_1
      (addf (broadcastInDim S300x300 ![] bcast_S_S300x300 (constant S_ .f32 0x3F3504F3#32))
        (mulf (broadcastInDim S300x300 ![] bcast_S_S300x300 (constant S_ .f32 0x40000000#32)) len)))

/-- One coordinate of the points of the patches: the samples rounded, plus the offsets. -/
def marks (x : FVec Ideal S300x300x64 .f32) (O : FVec Ideal S13 .f32) : FVec Ideal S300x300x64x13 .f32 :=
  addf
    (broadcastInDim S300x300x64x13 ![0, 1, 2, 3] bcast_S300x300x64x1_S300x300x64x13_0_1_2_3
      (broadcastInDim S300x300x64x1 ![0, 1, 2] bcast_S300x300x64_S300x300x64x1_0_1_2 (Host.roundeven x)))
    (broadcastInDim S300x300x64x13 ![0, 1, 2, 3] bcast_S1x1x1x13_S300x300x64x13_0_1_2_3 (broadcastInDim S1x1x1x13 ![3] bcast_S13_S1x1x1x13_3 O))

/-- The differences of the samples and the points of their patches, in one coordinate. -/
def slack (x : FVec Ideal S300x300x64 .f32) (O : FVec Ideal S13 .f32) : FVec Ideal S300x300x64x13 .f32 :=
  subf
    (broadcastInDim S300x300x64x13 ![0, 1, 2, 3] bcast_S300x300x64x1_S300x300x64x13_0_1_2_3
      (broadcastInDim S300x300x64x1 ![0, 1, 2] bcast_S300x300x64_S300x300x64x1_0_1_2 x))
    (marks x O)

/-- The points' index words in one coordinate, before a negative one is moved. -/
def cells (y : FVec Ideal S300x300x64x13 .f32) : IVec S300x300x64x13 32 :=
  fptosi 32 (minimumf (broadcastInDim S300x300x64x13 ![] bcast_S_S300x300x64x13 (sitofp .f32 (constantI S_ 32 511#32)))
    (maximumf (broadcastInDim S300x300x64x13 ![] bcast_S_S300x300x64x13 (sitofp .f32 (constantI S_ 32 0#32))) y))

/-- The points' index words in one coordinate. -/
def indexes (y : FVec Ideal S300x300x64x13 .f32) : IVec S300x300x64x13 32 :=
  select (cmpi .slt (cells y) (broadcastInDim S300x300x64x13 ![] bcast_S_S300x300x64x13 (constantI S_ 32 0#32)))
    (addi (cells y) (broadcastInDim S300x300x64x13 ![] bcast_S_S300x300x64x13 (constantI S_ 32 512#32))) (cells y)

/-- The pairs of index words of the points. -/
def spots (x : FVec Ideal S300x2 .f32) (Oh Ow : FVec Ideal S13 .f32) : IVec S300x300x64x13x2 32 :=
  concatenate S300x300x64x13x2 4
    [⟨S300x300x64x13x1, broadcastInDim S300x300x64x13x1 ![0, 1, 2, 3] bcast_S300x300x64x13_S300x300x64x13x1_0_1_2_3 (indexes (marks (dotsH x) Oh))⟩,
      ⟨S300x300x64x13x1, broadcastInDim S300x300x64x13x1 ![0, 1, 2, 3] bcast_S300x300x64x13_S300x300x64x13x1_0_1_2_3 (indexes (marks (dotsW x) Ow))⟩]
    concatenates_S300x300x64x13x1_S300x300x64x13x1_S300x300x64x13x2_d4

/-- Which points are nearer to their sample than the line's radius. -/
def within (x : FVec Ideal S300x2 .f32) (Oh Ow : FVec Ideal S13 .f32) : IVec S300x300x64x13 1 :=
  cmpf .olt
    (Host.sqrt (addf (mulf (slack (dotsH x) Oh) (slack (dotsH x) Oh)) (mulf (slack (dotsW x) Ow) (slack (dotsW x) Ow))))
    (reach (lengths x))

/-- The best points' values, sample by sample. -/
def best (x : FVec Ideal S300x2 .f32) (M : FVec Ideal S512x512 .f32) (Oh Ow : FVec Ideal S13 .f32) : FVec Ideal S300x300x64 .f32 :=
  Host.reduce FloatOps.maximumf
    (mulf (Host.gather gather_S512x512_S300x300x64x13x2_S300x300x64x13_n_01_n_n_01_4_11 M (spots x Oh Ow)) (uitofp .f32 (within x Oh Ow)))
    (constant S_ .f32 0xFF800000#32) reducesTo_S300x300x64x13_S300x300x64_d3 h_S_

/-- The verdicts from the features: is the mean along the line over a half? -/
def decided (y : FVec Ideal S300x300x64 .f32) : IVec S300x300 32 :=
  extui 32
    (cmpf .ogt
      (Host.divf (Host.reduceAdd y (constant S_ .f32 0x00000000#32) reducesTo_S300x300x64_S300x300_d2 h_S_)
        (broadcastInDim S300x300 ![] bcast_S_S300x300 (constant S_ .f32 0x42800000#32)))
      (broadcastInDim S300x300 ![] bcast_S_S300x300 (constant S_ .f32 0x3F000000#32)))
    natLt_1_32

/-- The verdicts kept above the diagonal only. -/
def above (d : IVec S300x300 32) : IVec S300x300 32 :=
  select
    (cmpi .slt (broadcastInDim S300x300 ![0, 1] bcast_S300x1_S300x300_0_1 (broadcastInDim S300x1 ![0] bcast_S300_S300x1_0 (iotaInDim S300 32 0)))
      (broadcastInDim S300x300 ![0, 1] bcast_S1x300_S300x300_0_1 (broadcastInDim S1x300 ![1] bcast_S300_S1x300_1 (iotaInDim S300 32 0))))
    d (broadcastInDim S300x300 ![] bcast_S_S300x300 (id (constantI S_ 32 0#32)))

/-- The reference's result from its upper half. -/
def mirrored (u : IVec S300x300 32) : IVec S300x300 32 := addi u (transpose S300x300 [1, 0] u transposes_S300x300_S300x300_1_0)

set_option maxRecDepth 16384 in
set_option maxHeartbeats 4000000 in
/-- The reference's result, put together from the arrays above. -/
theorem result_eq (m : (ℓ : Loc nD τ sig) → Buf (Elt Ideal) ℓ) (c : Dev nD) :
    res_main_v107 m c
      = mirrored (above (decided (best (m ((c.tc : Thread nD τ).loc main_arg0)) (m ((c.tc : Thread nD τ).loc main_arg1))
          (fun i => FloatOps.ofBits .f32 (lit0 (S13.rowMajor i))) (fun i => FloatOps.ofBits .f32 (lit1 (S13.rowMajor i)))))) := by
  unfold res_main_v107
  rfl

end Cert.Wireframe
-- ==== Proof.DenseAt.lean ====
module

public import proofs.«01_k».proof.Proof.Dense

@[expose] public section

noncomputable section

namespace Cert.Wireframe

open Idealize.ShloMosaic Cert.ReferenceIdeal Cert.ReferenceIdeal.Value Cert.ReferenceIdeal.Gen

/-! # The reference's arrays read at an index -/

/-- The places of the samples along a line. -/
def tick (s : Fin 64) : EReal := ticks (ix1 s)

/-- The offsets of the patch's points, both coordinates. -/
def offset (p : Fin 13) (q : Fin 2) : EReal := Ideal.ofBits .f32 (if q = 0 then lit0 p else lit1 p)

/-- The samples' rows: at `(i, j, s)`, the `s`-th of the line from `i` to `j`. -/
theorem dotsH_at (x : FVec Ideal S300x2 .f32) (i j : Fin 300) (s : Fin 64) : dotsH x (ix3 i j s) = spot tick (x (ix2 i 0)) (x (ix2 j 0)) s := by
  unfold dotsH dots starts ends
  pointwise
  rfl

/-- The samples' columns, likewise. -/
theorem dotsW_at (x : FVec Ideal S300x2 .f32) (i j : Fin 300) (s : Fin 64) : dotsW x (ix3 i j s) = spot tick (x (ix2 i 1)) (x (ix2 j 1)) s := by
  unfold dotsW dots starts ends
  pointwise
  rfl

/-- The lengths of the lines. -/
theorem lengths_at (x : FVec Ideal S300x2 .f32) (i j : Fin 300) : lengths x (ix2 i j) = length x i j := by
  unfold lengths starts ends
  pointwise
  rfl

/-- The radius of a line, the same at all samples and points of the patch. -/
theorem reach_at (x : FVec Ideal S300x2 .f32) (i j : Fin 300) (s : Fin 64) (p : Fin 13) : reach (lengths x) (ix4 i j s p) = radius x i j := by
  unfold reach radius
  rw [← lengths_at]
  generalize lengths x = y
  pointwise

/-- A point of the patch: the sample's nearest pixel, moved by the point's offset (one coordinate). -/
theorem marks_at (x : FVec Ideal S300x300x64 .f32) (O : FVec Ideal S13 .f32) (i j : Fin 300) (s : Fin 64) (p : Fin 13) :
    marks x O (ix4 i j s p) = near (x (ix3 i j s)) + O (ix1 p) := by
  unfold marks
  pointwise
  rfl

/-- The difference between a sample and a point of its patch (one coordinate). -/
theorem slack_at (x : FVec Ideal S300x300x64 .f32) (O : FVec Ideal S13 .f32) (i j : Fin 300) (s : Fin 64) (p : Fin 13) :
    slack x O (ix4 i j s p) = x (ix3 i j s) - (near (x (ix3 i j s)) + O (ix1 p)) := by
  unfold slack
  rw [← marks_at]
  generalize marks x O = y
  pointwise

/-- The index words of coordinates. -/
theorem indexes_at (y : FVec Ideal S300x300x64x13 .f32) (i j : Fin 300) (s : Fin 64) (p : Fin 13) : indexes y (ix4 i j s p) = word (y (ix4 i j s p)) := by
  unfold indexes cells word
  pointwise

/-- Two arrays of one word per point put together, read at an index. -/
theorem couple_at (x y : IVec S300x300x64x13 32) (i j : Fin 300) (s : Fin 64) (p : Fin 13) :
    concatenate S300x300x64x13x2 4
        [⟨S300x300x64x13x1, broadcastInDim S300x300x64x13x1 ![0, 1, 2, 3] bcast_S300x300x64x13_S300x300x64x13x1_0_1_2_3 x⟩,
          ⟨S300x300x64x13x1, broadcastInDim S300x300x64x13x1 ![0, 1, 2, 3] bcast_S300x300x64x13_S300x300x64x13x1_0_1_2_3 y⟩]
        concatenates_S300x300x64x13x1_S300x300x64x13x1_S300x300x64x13x2_d4 (ix5 i j s p 0) = x (ix4 i j s p)
      ∧ concatenate S300x300x64x13x2 4
        [⟨S300x300x64x13x1, broadcastInDim S300x300x64x13x1 ![0, 1, 2, 3] bcast_S300x300x64x13_S300x300x64x13x1_0_1_2_3 x⟩,
          ⟨S300x300x64x13x1, broadcastInDim S300x300x64x13x1 ![0, 1, 2, 3] bcast_S300x300x64x13_S300x300x64x13x1_0_1_2_3 y⟩]
        concatenates_S300x300x64x13x1_S300x300x64x13x1_S300x300x64x13x2_d4 (ix5 i j s p 1) = y (ix4 i j s p) := by
  constructor <;> pointwise

/-- Is a point of the patch nearer to the sample than the line's radius? -/
theorem within_at (x : FVec Ideal S300x2 .f32) (Oh Ow : FVec Ideal S13 .f32) (i j : Fin 300) (s : Fin 64) (p : Fin 13) :
    within x Oh Ow (ix4 i j s p)
      = BitVec.ofBool (decide (Ideal.sqrt
          ((dotsH x (ix3 i j s) - (near (dotsH x (ix3 i j s)) + Oh (ix1 p))) * (dotsH x (ix3 i j s) - (near (dotsH x (ix3 i j s)) + Oh (ix1 p)))
            + (dotsW x (ix3 i j s) - (near (dotsW x (ix3 i j s)) + Ow (ix1 p))) * (dotsW x (ix3 i j s) - (near (dotsW x (ix3 i j s)) + Ow (ix1 p))))
          < radius x i j)) := by
  unfold within
  rw [← slack_at, ← slack_at, ← reach_at x i j s p]
  pointwise

/-- The place of a point's pair of index words. -/
theorem gathered_at (M : FVec Ideal S512x512 .f32) (y : IVec S300x300x64x13x2 32) (i j : Fin 300) (s : Fin 64) (p : Fin 13) :
    Host.gather gather_S512x512_S300x300x64x13x2_S300x300x64x13_n_01_n_n_01_4_11 M y (ix4 i j s p)
      = heat M (y (ix5 i j s p 0)) (y (ix5 i j s p 1)) := by
  refine gather_pair _ rfl rfl rfl M y _ _ _ (fun k hk => ?_) (fun k hk => ?_)
  all_goals
    funext b
    apply Fin.ext
    match b with
    | ⟨0, _⟩ => rfl
    | ⟨1, _⟩ => rfl
    | ⟨2, _⟩ => rfl
    | ⟨3, _⟩ => rfl
    | ⟨4, _⟩ => exact hk

/-- The best value over a sample's patch is the sample's feature. -/
theorem best_at (x : FVec Ideal S300x2 .f32) (M : FVec Ideal S512x512 .f32) (Oh Ow : FVec Ideal S13 .f32) (i j : Fin 300) (s : Fin 64) :
    best x M Oh Ow (ix3 i j s)
      = feature M (fun p q => if q = 0 then Oh (ix1 p) else Ow (ix1 p)) (dotsH x (ix3 i j s)) (dotsW x (ix3 i j s)) (radius x i j) := by
  have e : ∀ p : Fin 13, mulf (Host.gather gather_S512x512_S300x300x64x13x2_S300x300x64x13_n_01_n_n_01_4_11 M (spots x Oh Ow)) (uitofp .f32 (within x Oh Ow)) (ix4 i j s p)
      = point M (dotsH x (ix3 i j s)) (dotsW x (ix3 i j s)) (radius x i j) (Oh (ix1 p)) (Ow (ix1 p)) := fun p => by
    unfold point
    rw [mulf_apply, gathered_at, uitofp_apply, within_at, ← marks_at, ← marks_at, ← indexes_at, ← indexes_at]
    unfold spots
    rw [(couple_at _ _ i j s p).1, (couple_at _ _ i j s p).2]
    rfl
  unfold best
  generalize mulf (Host.gather gather_S512x512_S300x300x64x13x2_S300x300x64x13_n_01_n_n_01_4_11 M (spots x Oh Ow)) (uitofp .f32 (within x Oh Ow)) = y at e
  pointwise
  simp only [e]
  rfl

/-- The verdicts, from the features' means. -/
theorem decided_at (y : FVec Ideal S300x300x64 .f32) (i j : Fin 300) : decided y (ix2 i j) = found fun s => y (ix3 i j s) := by
  unfold decided
  pointwise
  rfl

/-- A junction's number as a word, read signed. -/
theorem number_toInt (i : Fin 300) : (BitVec.ofNat 32 i.val).toInt = i.val := by
  have := i.isLt
  rw [BitVec.toInt_eq_toNat_of_lt (by rw [BitVec.toNat_ofNat]; omega), BitVec.toNat_ofNat, Nat.mod_eq_of_lt (by omega)]

/-- Comparing two junctions' numbers as words. -/
theorem number_lt (i j : Fin 300) : IntOp.cmpi .slt (BitVec.ofNat 32 i.val) (BitVec.ofNat 32 j.val) = BitVec.ofBool (decide (i < j)) := by
  have hi : (BitVec.ofNat 32 i.val).toInt = i.val := number_toInt i
  have hj : (BitVec.ofNat 32 j.val).toInt = j.val := number_toInt j
  show BitVec.ofBool (BitVec.slt _ _) = _
  rw [BitVec.slt, hi, hj]
  exact congrArg BitVec.ofBool (decide_eq_decide.mpr Int.ofNat_lt)

/-- Only the verdicts above the diagonal are kept. -/
theorem above_at (y : IVec S300x300 32) (i j : Fin 300) : above y (ix2 i j) = if i < j then y (ix2 i j) else 0#32 := by
  unfold above
  pointwise
  rw [number_lt]
  by_cases h : i < j
  · rw [decide_eq_true h, if_pos h]; rfl
  · rw [decide_eq_false h, if_neg h]; rfl

/-- The kept verdicts and their mirror image, added: the map of all lines. -/
theorem mirrored_at (y : IVec S300x300 32) (i j : Fin 300) : mirrored (above y) (ix2 i j) = lines (fun a b => y (ix2 a b)) i j := by
  have e : mirrored (above y) (ix2 i j) = above y (ix2 i j) + above y (ix2 j i) := by
    unfold mirrored
    generalize above y = z
    pointwise
    rfl
  rw [e, above_at, above_at, lines]
  by_cases h : i < j
  · rw [if_pos h, if_neg (by omega), if_pos h, BitVec.add_zero]
  · rw [if_neg h, if_neg h, BitVec.zero_add]

/-- The reference's result: at `(i, j)`, the map of all lines. -/
theorem result_at (m : (ℓ : Loc nD τ sig) → Buf (Elt Ideal) ℓ) (c : Dev nD) (i j : Fin 300) :
    res_main_v107 m c (ix2 i j)
      = lines (verdict (m ((c.tc : Thread nD τ).loc main_arg0)) (m ((c.tc : Thread nD τ).loc main_arg1)) offset tick) i j := by
  rw [result_eq, mirrored_at]
  refine congrArg (fun v => lines v i j) (funext fun a => funext fun b => ?_)
  rw [decided_at]
  refine congrArg found (funext fun s => ?_)
  rw [best_at, dotsH_at, dotsW_at]
  refine congrArg (fun O => feature _ O _ _ _) (funext fun p => funext fun q => ?_)
  have e : S13.rowMajor (ix1 p) = p := Fin.ext (Shape.rowMajor_val_one _)
  rw [offset, e]
  match q with
  | ⟨0, _⟩ => rfl
  | ⟨1, _⟩ => rfl

end Cert.Wireframe
-- ==== Proof.Reads.lean ====
module

public import proofs.«01_k».proof.Proof.Gen.KernelIdeal.Launch
public import Idealize.ShloMosaic.Lib.StableHlo.ReadAt
public import Idealize.ShloMosaic.Lib.Tactic
public import Idealize.ShloMosaic.Lib.Pointwise
public import proofs.«01_k».proof.Proof.DenseAt

@[expose] public section

noncomputable section

namespace Cert.Wireframe

open Idealize.ShloMosaic Idealize.ShloMosaic.StableHlo Cert.KernelIdeal Cert.KernelIdeal.Gen

/-! # What the kernel's buffers hold before and after its groups

The kernel's operations are the lists `hostOps0`, `hostOps0_1`, …, `hostOps0_36`, run one after the other. Each theorem reads one buffer after some of these
lists, run from any contents `W`. -/

set_option maxRecDepth 16384

/-- The index words of a table, as a column: a negative word moved up by the number of junctions. -/
def column (v : IVec S44850 32) : IVec S44850x1 32 :=
  broadcastInDim S44850x1 ![0] bcast_S44850_S44850x1_0
    (select (cmpi CmpIPredicate.slt v (broadcastInDim S44850 ![] bcast_S_S44850 (constantI S_ 32 0#32)))
      (addi v (broadcastInDim S44850 ![] bcast_S_S44850 (constantI S_ 32 300#32))) v)

/-- Two tables' index words side by side. -/
def columns (v w : IVec S44850 32) : IVec S44850x2 32 :=
  concatenate S44850x2 1 [⟨S44850x1, column v⟩, ⟨S44850x1, column w⟩] concatenates_S44850x1_S44850x1_S44850x2_d1

/-- The verdicts from the features: is the mean along the candidate over a half? -/
def decisions (y : FVec Ideal S44850x64 .f32) : IVec S44850 32 :=
  extui 32
    (cmpf .ogt
      (Host.divf (Host.reduceAdd y (constant (F := Ideal) S_ .f32 0x00000000#32) reducesTo_S44850x64_S44850_d1 h_S_)
        (broadcastInDim S44850 ![] bcast_S_S44850 (constant S_ .f32 0x42800000#32)))
      (broadcastInDim S44850 ![] bcast_S_S44850 (constant S_ .f32 0x3F000000#32)))
    natLt_1_32

/-- The groups' features one after the other. -/
def joined (x0 x1 x2 x3 : FVec Ideal S10000x64 .f32) (x4 : FVec Ideal S4850x64 .f32) : FVec Ideal S44850x64 .f32 :=
  concatenate S44850x64 0 [⟨S10000x64, x0⟩, ⟨S10000x64, x1⟩, ⟨S10000x64, x2⟩, ⟨S10000x64, x3⟩, ⟨S4850x64, x4⟩]
    concatenates_S10000x64_S10000x64_S10000x64_S10000x64_S4850x64_S44850x64_d0

/-! ## Before the groups -/

/-- The first table of candidates. -/
theorem read_table_starts (W : Valuation τ sig (Elt Ideal)) :
    StableHlo.after (List.flatten [hostOps0]) W (Proc.devRef .tc main_c) = fun i => lit0 (S44850.rowMajor i) := by
  after_reads_simp
  rfl

/-- The second table of candidates. -/
theorem read_table_ends (W : Valuation τ sig (Elt Ideal)) :
    StableHlo.after (List.flatten [hostOps0]) W (Proc.devRef .tc main_c_0) = fun i => lit1 (S44850.rowMajor i) := by
  after_reads_simp
  rfl

/-- The candidates' starts: the junctions at the table's words. -/
theorem read_starts (W : Valuation τ sig (Elt Ideal)) :
    StableHlo.after (List.flatten [hostOps0]) W (Proc.devRef .tc main_v6)
      = Host.gather gather_S300x2_S44850x1_S44850x2_1_0_n_n_0_1_12 (W (Proc.devRef .tc main_arg0))
          (column (StableHlo.after (List.flatten [hostOps0]) W (Proc.devRef .tc main_c))) := by
  unfold column
  after_reads_simp

/-- The candidates' ends: the junctions at the table's words. -/
theorem read_ends (W : Valuation τ sig (Elt Ideal)) :
    StableHlo.after (List.flatten [hostOps0]) W (Proc.devRef .tc main_v13)
      = Host.gather gather_S300x2_S44850x1_S44850x2_1_0_n_n_0_1_12 (W (Proc.devRef .tc main_arg0))
          (column (StableHlo.after (List.flatten [hostOps0]) W (Proc.devRef .tc main_c_0))) := by
  unfold column
  after_reads_simp

/-- The patch's offsets, written five times, once for each group. -/
theorem read_offsets (W : Valuation τ sig (Elt Ideal)) :
    StableHlo.after (List.flatten [hostOps0]) W (Proc.devRef .tc main_cst) = ((fun i => FloatOps.ofBits .f32 (lit2 (S13x2.rowMajor i))) : FVec Ideal S13x2 .f32)
    ∧ StableHlo.after (List.flatten [hostOps0]) W (Proc.devRef .tc main_cst_1) = ((fun i => FloatOps.ofBits .f32 (lit3 (S13x2.rowMajor i))) : FVec Ideal S13x2 .f32)
    ∧ StableHlo.after (List.flatten [hostOps0]) W (Proc.devRef .tc main_cst_2) = ((fun i => FloatOps.ofBits .f32 (lit4 (S13x2.rowMajor i))) : FVec Ideal S13x2 .f32)
    ∧ StableHlo.after (List.flatten [hostOps0]) W (Proc.devRef .tc main_cst_3) = ((fun i => FloatOps.ofBits .f32 (lit5 (S13x2.rowMajor i))) : FVec Ideal S13x2 .f32)
    ∧ StableHlo.after (List.flatten [hostOps0]) W (Proc.devRef .tc main_cst_4) = ((fun i => FloatOps.ofBits .f32 (lit6 (S13x2.rowMajor i))) : FVec Ideal S13x2 .f32) := by
  refine ⟨?_, ?_, ?_, ?_, ?_⟩ <;> after_reads_simp <;> rfl

/-- The places of the samples along a candidate are the reference's. -/
theorem read_ticks (W : Valuation τ sig (Elt Ideal)) : StableHlo.after (List.flatten [hostOps0, hostOps0_1]) W (Proc.devRef .tc main_v14) = ticks := by
  after_reads_simp
  simp -implicitDefEqProofs only [StableHlo.TRef.toBuf, StableHlo.TRef.ofBuf, cast_cast, cast_eq]
  rfl

/-- The first coordinate of the candidates' samples. -/
theorem read_h (W : Valuation τ sig (Elt Ideal)) (k : Fin 44850) (s : Fin 64) :
    StableHlo.after (List.flatten [hostOps0_2, hostOps0_3, hostOps0_4, hostOps0_5]) W (Proc.devRef .tc main_v38) (ix2 k s)
      = spot (fun s => W (Proc.devRef .tc main_v14) (ix1 s)) (W (Proc.devRef .tc main_v6) (ix2 k 0)) (W (Proc.devRef .tc main_v13) (ix2 k 0)) s := by
  after_reads_at
  rfl

/-- The second coordinate of the candidates' samples. -/
theorem read_w (W : Valuation τ sig (Elt Ideal)) (k : Fin 44850) (s : Fin 64) :
    StableHlo.after (List.flatten [hostOps0_2, hostOps0_3, hostOps0_4, hostOps0_5]) W (Proc.devRef .tc main_v39) (ix2 k s)
      = spot (fun s => W (Proc.devRef .tc main_v14) (ix1 s)) (W (Proc.devRef .tc main_v6) (ix2 k 1)) (W (Proc.devRef .tc main_v13) (ix2 k 1)) s := by
  after_reads_at
  rfl

/-- The relative lengths from the candidates' starts and ends. -/
def apart (x y : FVec Ideal S44850x2 .f32) (k : Fin 44850) : EReal :=
  Ideal.div (Ideal.sqrt (∑ q : Fin 2, (x (ix2 k q) - y (ix2 k q)) * (x (ix2 k q) - y (ix2 k q)))) (Ideal.ofBits .f32 0x443504F3#32)

/-- The candidates' relative lengths. -/
theorem read_len (W : Valuation τ sig (Elt Ideal)) (k : Fin 44850) :
    StableHlo.after (List.flatten [hostOps0_6, hostOps0_7, hostOps0_8, hostOps0_9, hostOps0_10, hostOps0_11, hostOps0_12]) W (Proc.devRef .tc main_v45) (ix1 k)
      = apart (W (Proc.devRef .tc main_v6)) (W (Proc.devRef .tc main_v13)) k := by
  after_reads_at
  rfl

/-! ## After the groups -/

/-- Joins of equal groups are equal. -/
theorem five_congr {x0 x1 x2 x3 y0 y1 y2 y3 : FVec Ideal S10000x64 .f32} {x4 y4 : FVec Ideal S4850x64 .f32} (h0 : x0 = y0) (h1 : x1 = y1) (h2 : x2 = y2)
    (h3 : x3 = y3) (h4 : x4 = y4) : joined x0 x1 x2 x3 x4 = joined y0 y1 y2 y3 y4 := by
  subst h0 h1 h2 h3 h4
  rfl

/-- Joins of equal columns are equal. -/
theorem two_congr {x0 x1 y0 y1 : IVec S44850x1 32} (h0 : x0 = y0) (h1 : x1 = y1) :
    concatenate S44850x2 1 [⟨S44850x1, x0⟩, ⟨S44850x1, x1⟩] concatenates_S44850x1_S44850x1_S44850x2_d1
      = concatenate S44850x2 1 [⟨S44850x1, y0⟩, ⟨S44850x1, y1⟩] concatenates_S44850x1_S44850x1_S44850x2_d1 := by
  subst h0 h1
  rfl

/-- The features of all candidates. -/
theorem read_features (W : Valuation τ sig (Elt Ideal)) :
    StableHlo.after (List.flatten [hostOps0_36]) W (Proc.devRef .tc main_v306)
      = joined (W (Proc.devRef .tc main_v97)) (W (Proc.devRef .tc main_v149)) (W (Proc.devRef .tc main_v201)) (W (Proc.devRef .tc main_v253))
          (StableHlo.after (List.flatten [hostOps0_36]) W (Proc.devRef .tc main_v305)) := by
  after_reads_simp
  refine five_congr ?_ ?_ ?_ ?_ ?_
  · show upto _ W 23 (Proc.devRef .tc main_v97) = _
    after_reads_simp
  · show upto _ W 23 (Proc.devRef .tc main_v149) = _
    after_reads_simp
  · show upto _ W 23 (Proc.devRef .tc main_v201) = _
    after_reads_simp
  · show upto _ W 23 (Proc.devRef .tc main_v253) = _
    after_reads_simp
  · show upto _ W 23 (Proc.devRef .tc main_v305) = _
    after_reads_simp

/-- The verdicts on all candidates. -/
theorem read_decisions (W : Valuation τ sig (Elt Ideal)) :
    StableHlo.after (List.flatten [hostOps0_36]) W (Proc.devRef .tc main_v312) = decisions (StableHlo.after (List.flatten [hostOps0_36]) W (Proc.devRef .tc main_v306)) := by
  unfold decisions
  after_reads_simp

/-- The pairs of words of the first scatter. -/
theorem read_places (W : Valuation τ sig (Elt Ideal)) :
    StableHlo.after (List.flatten [hostOps0_36]) W (Proc.devRef .tc main_v326) = columns (W (Proc.devRef .tc main_c)) (W (Proc.devRef .tc main_c_0)) := by
  unfold columns column
  after_reads_simp
  refine two_congr ?_ ?_ <;> after_reads_simp

/-- The pairs of words of the second scatter. -/
theorem read_places' (W : Valuation τ sig (Elt Ideal)) :
    StableHlo.after (List.flatten [hostOps0_36]) W (Proc.devRef .tc main_v340) = columns (W (Proc.devRef .tc main_c_0)) (W (Proc.devRef .tc main_c)) := by
  unfold columns column
  after_reads_simp
  refine two_congr ?_ ?_ <;> after_reads_simp

/-- The line map: the verdicts scattered into zeros, twice. -/
theorem read_map (W : Valuation τ sig (Elt Ideal)) :
    StableHlo.after (List.flatten [hostOps0_36]) W (Proc.devRef .tc main_v341)
      = Host.scatter scatter_S300x300_S44850x2_S44850_n_01_01_1 (fun _ b => b)
          (Host.scatter scatter_S300x300_S44850x2_S44850_n_01_01_1 (fun _ b => b) (broadcastInDim S300x300 ![] bcast_S_S300x300 (constantI S_ 32 0#32))
            (StableHlo.after (List.flatten [hostOps0_36]) W (Proc.devRef .tc main_v326)) (StableHlo.after (List.flatten [hostOps0_36]) W (Proc.devRef .tc main_v312)))
          (StableHlo.after (List.flatten [hostOps0_36]) W (Proc.devRef .tc main_v340)) (StableHlo.after (List.flatten [hostOps0_36]) W (Proc.devRef .tc main_v312)) := by
  after_reads_simp

/-! ## Buffers that later lists leave as they are -/

/-- The junctions picked, while the places of the samples are made. -/
theorem kept_picked' (W : Valuation τ sig (Elt Ideal)) :
    StableHlo.after (List.flatten [hostOps0_1]) W (Proc.devRef .tc main_v6) = W (Proc.devRef .tc main_v6)
    ∧ StableHlo.after (List.flatten [hostOps0_1]) W (Proc.devRef .tc main_v13) = W (Proc.devRef .tc main_v13) := by
  refine ⟨?_, ?_⟩ <;> after_reads_simp

/-- The junctions picked, while the samples are made. -/
theorem kept_picked (W : Valuation τ sig (Elt Ideal)) :
    StableHlo.after (List.flatten [hostOps0_2, hostOps0_3, hostOps0_4, hostOps0_5]) W (Proc.devRef .tc main_v6) = W (Proc.devRef .tc main_v6)
    ∧ StableHlo.after (List.flatten [hostOps0_2, hostOps0_3, hostOps0_4, hostOps0_5]) W (Proc.devRef .tc main_v13) = W (Proc.devRef .tc main_v13) := by
  refine ⟨?_, ?_⟩ <;> after_reads_simp

/-- The tables of candidates and the offsets. -/
theorem kept_constants (W : Valuation τ sig (Elt Ideal)) :
    StableHlo.after (List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_c) = W (Proc.devRef .tc main_c)
    ∧ StableHlo.after (List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_c_0) = W (Proc.devRef .tc main_c_0)
    ∧ StableHlo.after (List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_cst) = W (Proc.devRef .tc main_cst)
    ∧ StableHlo.after (List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_cst_1) = W (Proc.devRef .tc main_cst_1)
    ∧ StableHlo.after (List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_cst_2) = W (Proc.devRef .tc main_cst_2)
    ∧ StableHlo.after (List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_cst_3) = W (Proc.devRef .tc main_cst_3)
    ∧ StableHlo.after (List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_cst_4) = W (Proc.devRef .tc main_cst_4) := by
  refine ⟨?_, ?_, ?_, ?_, ?_, ?_, ?_⟩ <;> after_reads_simp

/-- The heat map. -/
theorem kept_heatmap (W : Valuation τ sig (Elt Ideal)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_arg1) = W (Proc.devRef .tc main_arg1) := by
  after_reads_simp

/-- The samples and what the first group uses. -/
theorem kept_first (W : Valuation τ sig (Elt Ideal)) :
    StableHlo.after (List.flatten [hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_v38) = W (Proc.devRef .tc main_v38)
    ∧ StableHlo.after (List.flatten [hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_v39) = W (Proc.devRef .tc main_v39)
    ∧ StableHlo.after (List.flatten [hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_cst) = W (Proc.devRef .tc main_cst)
    ∧ StableHlo.after (List.flatten [hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_arg1) = W (Proc.devRef .tc main_arg1) := by
  refine ⟨?_, ?_, ?_, ?_⟩ <;> after_reads_simp

/-- What the second group uses, from its first list on. -/
theorem kept_second (W : Valuation τ sig (Elt Ideal)) :
    StableHlo.after (List.flatten [hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_v38) = W (Proc.devRef .tc main_v38)
    ∧ StableHlo.after (List.flatten [hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_v39) = W (Proc.devRef .tc main_v39)
    ∧ StableHlo.after (List.flatten [hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_v45) = W (Proc.devRef .tc main_v45)
    ∧ StableHlo.after (List.flatten [hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_cst_1) = W (Proc.devRef .tc main_cst_1)
    ∧ StableHlo.after (List.flatten [hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_arg1) = W (Proc.devRef .tc main_arg1) := by
  refine ⟨?_, ?_, ?_, ?_, ?_⟩ <;> after_reads_simp

/-- What the third group uses, from its first list on. -/
theorem kept_third (W : Valuation τ sig (Elt Ideal)) :
    StableHlo.after (List.flatten [hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_v38) = W (Proc.devRef .tc main_v38)
    ∧ StableHlo.after (List.flatten [hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_v39) = W (Proc.devRef .tc main_v39)
    ∧ StableHlo.after (List.flatten [hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_v45) = W (Proc.devRef .tc main_v45)
    ∧ StableHlo.after (List.flatten [hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_cst_2) = W (Proc.devRef .tc main_cst_2)
    ∧ StableHlo.after (List.flatten [hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_arg1) = W (Proc.devRef .tc main_arg1) := by
  refine ⟨?_, ?_, ?_, ?_, ?_⟩ <;> after_reads_simp

/-- What the fourth group uses, from its first list on. -/
theorem kept_fourth (W : Valuation τ sig (Elt Ideal)) :
    StableHlo.after (List.flatten [hostOps0_24, hostOps0_25, hostOps0_26, hostOps0_27, hostOps0_28, hostOps0_29, hostOps0_30, hostOps0_31, hostOps0_32, hostOps0_33, hostOps0_34, hostOps0_35, hostOps0_36]) W (Proc.devRef .tc main_v38) = W (Proc.devRef .tc main_v38)
    ∧ StableHlo.after (List.flatten [hostOps0_24, hostOps0_25, hostOps0_26, hostOps0_27, hostOps0_28, hostOps0_29, hostOps0_30, hostOps0_31, hostOps0_32, hostOps0_33, hostOps0_34, hostOps0_35, hostOps0_36]) W (Proc.devRef .tc main_v39) = W (Proc.devRef .tc main_v39)
    ∧ StableHlo.after (List.flatten [hostOps0_24, hostOps0_25, hostOps0_26, hostOps0_27, hostOps0_28, hostOps0_29, hostOps0_30, hostOps0_31, hostOps0_32, hostOps0_33, hostOps0_34, hostOps0_35, hostOps0_36]) W (Proc.devRef .tc main_v45) = W (Proc.devRef .tc main_v45)
    ∧ StableHlo.after (List.flatten [hostOps0_24, hostOps0_25, hostOps0_26, hostOps0_27, hostOps0_28, hostOps0_29, hostOps0_30, hostOps0_31, hostOps0_32, hostOps0_33, hostOps0_34, hostOps0_35, hostOps0_36]) W (Proc.devRef .tc main_cst_3) = W (Proc.devRef .tc main_cst_3)
    ∧ StableHlo.after (List.flatten [hostOps0_24, hostOps0_25, hostOps0_26, hostOps0_27, hostOps0_28, hostOps0_29, hostOps0_30, hostOps0_31, hostOps0_32, hostOps0_33, hostOps0_34, hostOps0_35, hostOps0_36]) W (Proc.devRef .tc main_arg1) = W (Proc.devRef .tc main_arg1) := by
  refine ⟨?_, ?_, ?_, ?_, ?_⟩ <;> after_reads_simp

/-- What the fifth group uses, from its first list on. -/
theorem kept_fifth (W : Valuation τ sig (Elt Ideal)) :
    StableHlo.after (List.flatten [hostOps0_30, hostOps0_31, hostOps0_32, hostOps0_33, hostOps0_34, hostOps0_35, hostOps0_36]) W (Proc.devRef .tc main_v38) = W (Proc.devRef .tc main_v38)
    ∧ StableHlo.after (List.flatten [hostOps0_30, hostOps0_31, hostOps0_32, hostOps0_33, hostOps0_34, hostOps0_35, hostOps0_36]) W (Proc.devRef .tc main_v39) = W (Proc.devRef .tc main_v39)
    ∧ StableHlo.after (List.flatten [hostOps0_30, hostOps0_31, hostOps0_32, hostOps0_33, hostOps0_34, hostOps0_35, hostOps0_36]) W (Proc.devRef .tc main_v45) = W (Proc.devRef .tc main_v45)
    ∧ StableHlo.after (List.flatten [hostOps0_30, hostOps0_31, hostOps0_32, hostOps0_33, hostOps0_34, hostOps0_35, hostOps0_36]) W (Proc.devRef .tc main_cst_4) = W (Proc.devRef .tc main_cst_4)
    ∧ StableHlo.after (List.flatten [hostOps0_30, hostOps0_31, hostOps0_32, hostOps0_33, hostOps0_34, hostOps0_35, hostOps0_36]) W (Proc.devRef .tc main_arg1) = W (Proc.devRef .tc main_arg1) := by
  refine ⟨?_, ?_, ?_, ?_, ?_⟩ <;> after_reads_simp

/-- What the first group has found, and the relative lengths. -/
theorem kept_first_done (W : Valuation τ sig (Elt Ideal)) :
    StableHlo.after (List.flatten [hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_v97) = W (Proc.devRef .tc main_v97)
    ∧ StableHlo.after (List.flatten [hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_v45) = W (Proc.devRef .tc main_v45) := by
  refine ⟨?_, ?_⟩ <;> after_reads_simp

/-- What the second group has found. -/
theorem kept_second_done (W : Valuation τ sig (Elt Ideal)) :
    StableHlo.after (List.flatten [hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W (Proc.devRef .tc main_v149) = W (Proc.devRef .tc main_v149) := by
  after_reads_simp

/-- What the third group has found. -/
theorem kept_third_done (W : Valuation τ sig (Elt Ideal)) :
    StableHlo.after (List.flatten [hostOps0_25, hostOps0_26, hostOps0_27, hostOps0_28, hostOps0_29, hostOps0_30, hostOps0_31, hostOps0_32, hostOps0_33, hostOps0_34, hostOps0_35, hostOps0_36]) W (Proc.devRef .tc main_v201) = W (Proc.devRef .tc main_v201) := by
  after_reads_simp

/-- What the fourth group has found. -/
theorem kept_fourth_done (W : Valuation τ sig (Elt Ideal)) :
    StableHlo.after (List.flatten [hostOps0_31, hostOps0_32, hostOps0_33, hostOps0_34, hostOps0_35, hostOps0_36]) W (Proc.devRef .tc main_v253) = W (Proc.devRef .tc main_v253) := by
  after_reads_simp

/-- What the last list takes over. -/
theorem kept_end (W : Valuation τ sig (Elt Ideal)) :
    StableHlo.after (List.flatten [hostOps0_36]) W (Proc.devRef .tc main_v97) = W (Proc.devRef .tc main_v97)
    ∧ StableHlo.after (List.flatten [hostOps0_36]) W (Proc.devRef .tc main_v149) = W (Proc.devRef .tc main_v149)
    ∧ StableHlo.after (List.flatten [hostOps0_36]) W (Proc.devRef .tc main_v201) = W (Proc.devRef .tc main_v201)
    ∧ StableHlo.after (List.flatten [hostOps0_36]) W (Proc.devRef .tc main_v253) = W (Proc.devRef .tc main_v253)
    ∧ StableHlo.after (List.flatten [hostOps0_36]) W (Proc.devRef .tc main_c) = W (Proc.devRef .tc main_c)
    ∧ StableHlo.after (List.flatten [hostOps0_36]) W (Proc.devRef .tc main_c_0) = W (Proc.devRef .tc main_c_0) := by
  refine ⟨?_, ?_, ?_, ?_, ?_, ?_⟩ <;> after_reads_simp

end Cert.Wireframe
-- ==== Proof.Map.lean ====
module

public import proofs.«01_k».proof.Proof.Reads
public import Idealize.ShloMosaic.Lib.Routing.Ops
public import Idealize.ShloMosaic.Lib.Routing.OpsPair
public import Idealize.ShloMosaic.Lib.Routing.OpsSet
public import Idealize.ShloMosaic.Lib.Routing.OpsOne

@[expose] public section

noncomputable section

namespace Cert.Wireframe

open Idealize.ShloMosaic Idealize.ShloMosaic.StableHlo Cert.KernelIdeal Cert.KernelIdeal.Gen

/-! # Where the tables' words lead: the junctions picked, and the entries of the map that the scatters write -/

/-- A table whose words are the numbers `a k`, all below 300. -/
def Holds (v : IVec S44850 32) (a : Fin 44850 → Fin 300) : Prop := ∀ k, v (ix1 k) = BitVec.ofNat 32 (a k).val

/-- A table's words, as a column, are the words themselves: none is negative. -/
theorem column_at {v : IVec S44850 32} {a : Fin 44850 → Fin 300} (h : Holds v a) (k : Fin 44850) : column v (ix2 k 0) = BitVec.ofNat 32 (a k).val := by
  have e : column v (ix2 k 0) = Scalar.select (IntOp.cmpi .slt (v (ix1 k)) 0#32) (IntOp.addi (v (ix1 k)) 300#32) (v (ix1 k)) := by
    unfold column
    pointwise
  rw [e, h k]
  refine Routing.wrap_of_lt _ _ ?_
  rw [BitVec.toNat_ofNat]
  have := (a k).isLt
  omega

/-- The junctions picked by a table: row `k` is junction `a k`. -/
theorem picked_at {v : IVec S44850 32} {a : Fin 44850 → Fin 300} (h : Holds v a) (x : FVec Ideal S300x2 .f32) (k : Fin 44850) (q : Fin 2) :
    Host.gather gather_S300x2_S44850x1_S44850x2_1_0_n_n_0_1_12 x (column v) (ix2 k q) = x (ix2 (a k) q) :=
  Routing.gather_row _ rfl rfl rfl rfl rfl x _ k q (a k) (column_at h k) (by decide)

/-- Two tables side by side. -/
theorem columns_at (v w : IVec S44850 32) (k : Fin 44850) :
    columns v w (ix2 k 0) = column v (ix2 k 0) ∧ columns v w (ix2 k 1) = column w (ix2 k 0) := by
  unfold columns
  generalize column v = y
  generalize column w = z
  constructor
  · pointwise
  · pointwise

/-- The start that update `k` of a scatter into the map has on axis `q`: the word in column `q`, read signed. -/
theorem start_at (idx : IVec S44850x2 32) (k : Fin 44850) (q : Fin 2) :
    scatter_S300x300_S44850x2_S44850_n_01_01_1.start (ix1 k) idx q = (idx (ix2 k q)).toInt := by
  have hm : q ∈ scatter_S300x300_S44850x2_S44850_n_01_01_1.scatterDimsToOperandDims := by
    show q ∈ [(0 : Fin 2), 1]
    revert q
    decide
  have hs : scatter_S300x300_S44850x2_S44850_n_01_01_1.siIdx (ix1 k)
      ⟨scatter_S300x300_S44850x2_S44850_n_01_01_1.scatterDimsToOperandDims.idxOf q, List.idxOf_lt_length_iff.2 hm⟩ = ix2 k q := by
    funext b
    apply Fin.ext
    match b with
    | ⟨0, _⟩ => rfl
    | ⟨1, _⟩ =>
      show List.idxOf q [(0 : Fin 2), 1] = q.val
      revert q
      decide
  unfold ScatterDims.start
  rw [dif_pos hm, hs]

/-- No axis of the map is a window axis of the scatters. -/
theorem window_at (k : Fin 44850) (q : Fin 2) : scatter_S300x300_S44850x2_S44850_n_01_01_1.window (ix1 k) q = 0 := by
  unfold ScatterDims.window
  refine dif_neg fun h => (of_decide_eq_true (List.mem_filter.1 h).2) ?_
  show q ∈ [(0 : Fin 2), 1]
  revert q
  decide

/-- A junction's number, as a word, reads back as itself. -/
theorem toInt_number (a : Fin 300) : (BitVec.ofNat 32 a.val).toInt = (a.val : Int) := by
  have := a.isLt
  have h : (BitVec.ofNat 32 a.val).toNat = a.val := by rw [BitVec.toNat_ofNat]; omega
  rw [BitVec.toInt_eq_toNat_of_lt (by rw [h]; omega), h]

/-- Every index of a list of 44850 updates is a number. -/
theorem number_of (j : S44850.Idx) : ∃ k : Fin 44850, j = ix1 k := ⟨j 0, eq_ix1 j⟩

/-- Update `k` of a scatter by the tables `a` and `b` lands at `(a k, b k)`. -/
theorem lands {v w : IVec S44850 32} {a b : Fin 44850 → Fin 300} (hv : Holds v a) (hw : Holds w b) (k : Fin 44850) (i j : Fin 300) :
    scatter_S300x300_S44850x2_S44850_n_01_01_1.resultIdx? (ix1 k) (columns v w) = some (ix2 i j) ↔ a k = i ∧ b k = j := by
  rw [Fin.ext_iff, Fin.ext_iff]
  refine (Routing.resultIdx?_ix2 _ _ _ i j).trans ?_
  rw [start_at, start_at, window_at, window_at, (columns_at v w _).1, (columns_at v w _).2, column_at hv, column_at hw, toInt_number, toInt_number]
  omega

/-- A scatter of the verdicts `u` by the tables `a` and `b`, read at `(i, j)`: the verdict `z` of that pair, if the pair is listed. -/
theorem scatter_listed {v w : IVec S44850 32} {a b : Fin 44850 → Fin 300} (hv : Holds v a) (hw : Holds w b) (x : IVec S300x300 32) (u : IVec S44850 32)
    (i j : Fin 300) (z : BitVec 32) (hz : ∀ k, a k = i → b k = j → u (ix1 k) = z) (hex : ∃ k, a k = i ∧ b k = j) :
    Host.scatter scatter_S300x300_S44850x2_S44850_n_01_01_1 (fun _ b => b) x (columns v w) u (ix2 i j) = z := by
  obtain ⟨k, hk⟩ := hex
  refine Routing.scatter_set_hit _ x (columns v w) u (ix2 i j) z (fun k' hk' => ?_) (ix1 k) ((lands hv hw k i j).2 hk)
  obtain ⟨n, rfl⟩ := number_of k'
  have h := (lands hv hw n i j).1 hk'
  exact hz n h.1 h.2

/-- The same, if the pair is not listed: what was there. -/
theorem scatter_unlisted {v w : IVec S44850 32} {a b : Fin 44850 → Fin 300} (hv : Holds v a) (hw : Holds w b) (x : IVec S300x300 32) (u : IVec S44850 32)
    (i j : Fin 300) (hno : ∀ k, a k = i → b k = j → False) :
    Host.scatter scatter_S300x300_S44850x2_S44850_n_01_01_1 (fun _ b => b) x (columns v w) u (ix2 i j) = x (ix2 i j) := by
  refine Routing.scatter_set_miss _ x (columns v w) u (ix2 i j) fun k' hk' => ?_
  obtain ⟨n, rfl⟩ := number_of k'
  have h := (lands hv hw n i j).1 hk'
  exact hno n h.1 h.2

/-- The two scatters into zeros, where the tables list exactly the pairs `a < b`: the map of all lines. -/
theorem map_at {v w : IVec S44850 32} {a b : Fin 44850 → Fin 300} (hv : Holds v a) (hw : Holds w b) (hlt : ∀ k, a k < b k)
    (hall : ∀ i j : Fin 300, i < j → ∃ k, a k = i ∧ b k = j) (u : IVec S44850 32) (f : Fin 300 → Fin 300 → BitVec 32)
    (hu : ∀ k, u (ix1 k) = f (a k) (b k)) (i j : Fin 300) :
    Host.scatter scatter_S300x300_S44850x2_S44850_n_01_01_1 (fun _ b => b)
        (Host.scatter scatter_S300x300_S44850x2_S44850_n_01_01_1 (fun _ b => b) (broadcastInDim S300x300 ![] bcast_S_S300x300 (constantI S_ 32 0#32)) (columns v w) u)
        (columns w v) u (ix2 i j) = lines f i j := by
  unfold lines
  by_cases hij : i < j
  · rw [if_pos hij, scatter_unlisted hw hv _ _ _ _ fun k hb ha => by have := hlt k; omega]
    refine scatter_listed hv hw _ _ _ _ _ (fun k ha hb => ?_) (hall i j hij)
    rw [hu, ha, hb]
  rw [if_neg hij]
  by_cases hji : j < i
  · rw [if_pos hji]
    refine scatter_listed hw hv _ _ _ _ _ (fun k hb ha => ?_) ?_
    · rw [hu, ha, hb]
    · obtain ⟨k, ha, hb⟩ := hall j i hji
      exact ⟨k, hb, ha⟩
  · rw [if_neg hji, scatter_unlisted hw hv _ _ _ _ fun k hb ha => by have := hlt k; omega,
      scatter_unlisted hv hw _ _ _ _ fun k ha hb => by have := hlt k; omega]
    pointwise

end Cert.Wireframe
-- ==== Proof.Group.lean ====
module

public import Idealize.ShloMosaic.Lib.Tactic
public import Idealize.ShloMosaic.Lib.Pointwise
public import Idealize.ShloMosaic.Lib.Pointwise.IndexVar
public import proofs.«01_k».proof.Proof.Spec

@[expose] public section

noncomputable section

namespace Cert.Wireframe

open Idealize.ShloMosaic

/-! # The features of one group of candidates

The kernel works on its candidate lines in groups: four of 10000 and one of 4850. `group` is what it computes of one group, written once for a group of
any size; `group_at` reads it at one sample of one candidate. -/

/-- The shape of a number per sample. -/
abbrev G2 (n : ℕ) : Shape := ⟨2, ![n, 64]⟩
/-- The shape of `k` numbers per sample. -/
abbrev G3 (n k : ℕ) : Shape := ⟨3, ![n, 64, k]⟩
/-- The shape of `k × l` numbers per sample. -/
abbrev G4 (n k l : ℕ) : Shape := ⟨4, ![n, 64, k, l]⟩
/-- The shape of the patch's offsets with two unit axes in front. -/
abbrev O4 : Shape := ⟨4, ![1, 1, 13, 2]⟩

/-- The conditions under which the operations of a group of `n` candidates fit their shapes. -/
structure Fits (n : ℕ) : Prop where
  row : (⟨1, ![n]⟩ : Shape).BroadcastsInDim ⟨2, ![n, 1]⟩ (![0] : Fin 1 → Fin 2)
  rows : (⟨2, ![n, 1]⟩ : Shape).BroadcastsInDim (G2 n) (![0, 1] : Fin 2 → Fin 2)
  scalar1 : (⟨0, ![]⟩ : Shape).BroadcastsInDim ⟨1, ![n]⟩ (![] : Fin 0 → Fin 1)
  scalar3 : (⟨0, ![]⟩ : Shape).BroadcastsInDim (G3 n 13) (![] : Fin 0 → Fin 3)
  lift : (G2 n).BroadcastsInDim (G3 n 1) (![0, 1] : Fin 2 → Fin 3)
  both : Shape.Concatenates [G3 n 1, G3 n 1] (G3 n 2) 2
  lift2 : (G3 n 2).BroadcastsInDim (G4 n 1 2) (![0, 1, 3] : Fin 3 → Fin 4)
  spread2 : (G4 n 1 2).BroadcastsInDim (G4 n 13 2) (![0, 1, 2, 3] : Fin 4 → Fin 4)
  offs : (⟨2, ![13, 2]⟩ : Shape).BroadcastsInDim O4 (![2, 3] : Fin 2 → Fin 4)
  spreadOffs : O4.BroadcastsInDim (G4 n 13 2) (![0, 1, 2, 3] : Fin 4 → Fin 4)
  sum2 : (G4 n 13 2).ReducesTo [3] (G3 n 13)
  spread : (G3 n 1).BroadcastsInDim (G3 n 13) (![0, 1, 2] : Fin 3 → Fin 3)
  cut0 : (G4 n 13 2).Slices ![0, 0, 0, 0] (G4 n 13 1)
  cut1 : (G4 n 13 2).Slices ![0, 0, 0, 1] (G4 n 13 1)
  drop : (G4 n 13 1).ShapeCasts (G3 n 13)
  unit : (G3 n 13).BroadcastsInDim (G4 n 13 1) (![0, 1, 2] : Fin 3 → Fin 4)
  pair : Shape.Concatenates [G4 n 13 1, G4 n 13 1] (G4 n 13 2) 3
  top : (G3 n 13).ReducesTo [2] (G2 n)
  one : 0 < (⟨0, ![]⟩ : Shape).numel

variable {n : ℕ}

/-- The samples of a group, both coordinates in one array. -/
def samples (f : Fits n) (h w : FVec Ideal (G2 n) .f32) : FVec Ideal (G3 n 2) .f32 :=
  concatenate (G3 n 2) 2 [⟨G3 n 1, broadcastInDim (G3 n 1) ![0, 1] f.lift h⟩, ⟨G3 n 1, broadcastInDim (G3 n 1) ![0, 1] f.lift w⟩] f.both

/-- The points of the patches round the samples: each sample rounded, plus the 13 offsets. -/
def points (f : Fits n) (h w : FVec Ideal (G2 n) .f32) (O : FVec Ideal ⟨2, ![13, 2]⟩ .f32) : FVec Ideal (G4 n 13 2) .f32 :=
  addf (broadcastInDim (G4 n 13 2) ![0, 1, 2, 3] f.spread2 (broadcastInDim (G4 n 1 2) ![0, 1, 3] f.lift2 (Host.roundeven (samples f h w))))
    (broadcastInDim (G4 n 13 2) ![0, 1, 2, 3] f.spreadOffs (broadcastInDim O4 ![2, 3] f.offs O))

/-- The differences of the samples and the points of their patches. -/
def gaps (f : Fits n) (h w : FVec Ideal (G2 n) .f32) (O : FVec Ideal ⟨2, ![13, 2]⟩ .f32) : FVec Ideal (G4 n 13 2) .f32 :=
  subf (broadcastInDim (G4 n 13 2) ![0, 1, 2, 3] f.spread2 (broadcastInDim (G4 n 1 2) ![0, 1, 3] f.lift2 (samples f h w))) (points f h w O)

/-- The candidates' radii, from their relative lengths, one for every point. -/
def radii (f : Fits n) (len : FVec Ideal ⟨1, ![n]⟩ .f32) : FVec Ideal (G3 n 13) .f32 :=
  broadcastInDim (G3 n 13) ![0, 1, 2] f.spread (broadcastInDim (G3 n 1) ![0, 1] f.lift
    (broadcastInDim (G2 n) ![0, 1] f.rows (broadcastInDim ⟨2, ![n, 1]⟩ ![0] f.row
      (addf (broadcastInDim ⟨1, ![n]⟩ ![] f.scalar1 (constant (F := Ideal) ⟨0, ![]⟩ .f32 0x3F3504F3#32))
        (mulf (broadcastInDim ⟨1, ![n]⟩ ![] f.scalar1 (constant (F := Ideal) ⟨0, ![]⟩ .f32 0x40000000#32)) len)))))

/-- Which points are nearer to their sample than the candidate's radius. -/
def close (f : Fits n) (h w : FVec Ideal (G2 n) .f32) (len : FVec Ideal ⟨1, ![n]⟩ .f32) (O : FVec Ideal ⟨2, ![13, 2]⟩ .f32) : IVec (G3 n 13) 1 :=
  cmpf .olt (Host.sqrt (Host.reduceAdd (mulf (gaps f h w O) (gaps f h w O)) (constant (F := Ideal) ⟨0, ![]⟩ .f32 0x00000000#32) f.sum2 f.one)) (radii f len)

/-- The points' coordinates, cut to the image and made integers. -/
def cuts (f : Fits n) (x : FVec Ideal (G4 n 13 1) .f32) : IVec (G3 n 13) 32 :=
  fptosi 32 (minimumf (broadcastInDim (G3 n 13) ![] f.scalar3 (sitofp (F := Ideal) .f32 (constantI ⟨0, ![]⟩ 32 511#32)))
    (maximumf (broadcastInDim (G3 n 13) ![] f.scalar3 (sitofp (F := Ideal) .f32 (constantI ⟨0, ![]⟩ 32 0#32))) (shapeCast (G3 n 13) x f.drop)))

/-- The index words of the points: a negative word moved up by the image's size. -/
def words (f : Fits n) (v : IVec (G3 n 13) 32) : IVec (G3 n 13) 32 :=
  select (cmpi .slt v (broadcastInDim (G3 n 13) ![] f.scalar3 (constantI ⟨0, ![]⟩ 32 0#32)))
    (addi v (broadcastInDim (G3 n 13) ![] f.scalar3 (constantI ⟨0, ![]⟩ 32 512#32))) v

/-- The pairs of index words of the points. -/
def pairs (f : Fits n) (h w : FVec Ideal (G2 n) .f32) (O : FVec Ideal ⟨2, ![13, 2]⟩ .f32) : IVec (G4 n 13 2) 32 :=
  concatenate (G4 n 13 2) 3
    [⟨G4 n 13 1, broadcastInDim (G4 n 13 1) ![0, 1, 2] f.unit (words f (cuts f (extractStridedSlice (G4 n 13 1) ![0, 0, 0, 0] (points f h w O) f.cut0)))⟩,
      ⟨G4 n 13 1, broadcastInDim (G4 n 13 1) ![0, 1, 2] f.unit (words f (cuts f (extractStridedSlice (G4 n 13 1) ![0, 0, 0, 1] (points f h w O) f.cut1)))⟩]
    f.pair

/-- The features of a group of `n` candidates, from its samples' coordinates `h` and `w`, its candidates' relative lengths `len`, the patch's offsets `O`
    and the heat map `M`. -/
def group (f : Fits n) (d : GatherDims ⟨2, ![512, 512]⟩ (G4 n 13 2) (G3 n 13)) (h w : FVec Ideal (G2 n) .f32) (len : FVec Ideal ⟨1, ![n]⟩ .f32)
    (O : FVec Ideal ⟨2, ![13, 2]⟩ .f32) (M : FVec Ideal ⟨2, ![512, 512]⟩ .f32) : FVec Ideal (G2 n) .f32 :=
  Host.reduce FloatOps.maximumf (mulf (Host.gather d M (pairs f h w O)) (uitofp .f32 (close f h w len O)))
    (constant (F := Ideal) ⟨0, ![]⟩ .f32 0xFF800000#32) f.top f.one

/-! ## The operations read at an index -/

/-- A broadcast read at an index `j`: the operand at the index `k` whose coordinates are `j`'s, 0 on the operand's unit axes. -/
theorem broadcast_at {α : Type} {s t : Shape} (dims : Fin s.rank → Fin t.rank) (h : s.BroadcastsInDim t dims) (x : s.Idx → α) (j : t.Idx) (k : s.Idx)
    (hk : ∀ a, s.size a ≠ 1 → (k a).val = (j (dims a)).val) : broadcastInDim t dims h x j = x k := by
  unfold broadcastInDim
  refine congrArg x (funext fun a => Fin.ext ?_)
  by_cases h1 : s.size a = 1
  · rw [dif_pos h1]
    show 0 = (k a).val
    have := (k a).isLt
    omega
  · rw [dif_neg h1, hk a h1]

/-- A list made a column. -/
theorem row_at {α : Type} (h : (⟨1, ![n]⟩ : Shape).BroadcastsInDim ⟨2, ![n, 1]⟩ (![0] : Fin 1 → Fin 2)) (x : (⟨1, ![n]⟩ : Shape).Idx → α) (r : Fin n) :
    broadcastInDim ⟨2, ![n, 1]⟩ ![0] h x (ix2 r 0) = x (ix1 r) :=
  broadcast_at _ _ _ _ _ fun a _ => match a with | ⟨0, _⟩ => rfl

/-- A column spread over the 64 samples. -/
theorem rows_at {α : Type} (h : (⟨2, ![n, 1]⟩ : Shape).BroadcastsInDim (G2 n) (![0, 1] : Fin 2 → Fin 2)) (x : (⟨2, ![n, 1]⟩ : Shape).Idx → α) (r : Fin n) (s : Fin 64) :
    broadcastInDim (G2 n) ![0, 1] h x (ix2 r s) = x (ix2 r 0) :=
  broadcast_at _ _ _ _ _ fun a ha => match a with | ⟨0, _⟩ => rfl | ⟨1, _⟩ => (ha rfl).elim

/-- An array of samples with a last axis of one. -/
theorem lift_at {α : Type} (h : (G2 n).BroadcastsInDim (G3 n 1) (![0, 1] : Fin 2 → Fin 3)) (x : (G2 n).Idx → α) (r : Fin n) (s : Fin 64) :
    broadcastInDim (G3 n 1) ![0, 1] h x (ix3 r s 0) = x (ix2 r s) :=
  broadcast_at _ _ _ _ _ fun a _ => match a with | ⟨0, _⟩ => rfl | ⟨1, _⟩ => rfl

/-- An array of points, with an axis of one for the patch. -/
theorem lift2_at {α : Type} (h : (G3 n 2).BroadcastsInDim (G4 n 1 2) (![0, 1, 3] : Fin 3 → Fin 4)) (x : (G3 n 2).Idx → α) (r : Fin n) (s : Fin 64) (q : Fin 2) :
    broadcastInDim (G4 n 1 2) ![0, 1, 3] h x (ix4 r s 0 q) = x (ix3 r s q) :=
  broadcast_at _ _ _ _ _ fun a _ => match a with | ⟨0, _⟩ => rfl | ⟨1, _⟩ => rfl | ⟨2, _⟩ => rfl

/-- An array of points spread over the patch. -/
theorem spread2_at {α : Type} (h : (G4 n 1 2).BroadcastsInDim (G4 n 13 2) (![0, 1, 2, 3] : Fin 4 → Fin 4)) (x : (G4 n 1 2).Idx → α) (r : Fin n) (s : Fin 64) (p : Fin 13) (q : Fin 2) :
    broadcastInDim (G4 n 13 2) ![0, 1, 2, 3] h x (ix4 r s p q) = x (ix4 r s 0 q) :=
  broadcast_at _ _ _ _ _ fun a ha => match a with | ⟨0, _⟩ => rfl | ⟨1, _⟩ => rfl | ⟨2, _⟩ => (ha rfl).elim | ⟨3, _⟩ => rfl

/-- The table of offsets under two axes of one. -/
theorem offs_at {α : Type} (h : (⟨2, ![13, 2]⟩ : Shape).BroadcastsInDim O4 (![2, 3] : Fin 2 → Fin 4)) (x : (⟨2, ![13, 2]⟩ : Shape).Idx → α) (p : Fin 13) (q : Fin 2) :
    broadcastInDim O4 ![2, 3] h x (ix4 0 0 p q) = x (ix2 p q) :=
  broadcast_at _ _ _ _ _ fun a _ => match a with | ⟨0, _⟩ => rfl | ⟨1, _⟩ => rfl

/-- The table of offsets spread over candidates and samples. -/
theorem spreadOffs_at {α : Type} (h : O4.BroadcastsInDim (G4 n 13 2) (![0, 1, 2, 3] : Fin 4 → Fin 4)) (x : O4.Idx → α) (r : Fin n) (s : Fin 64) (p : Fin 13) (q : Fin 2) :
    broadcastInDim (G4 n 13 2) ![0, 1, 2, 3] h x (ix4 r s p q) = x (ix4 0 0 p q) :=
  broadcast_at _ _ _ _ _ fun a ha => match a with | ⟨0, _⟩ => (ha rfl).elim | ⟨1, _⟩ => (ha rfl).elim | ⟨2, _⟩ => rfl | ⟨3, _⟩ => rfl

/-- An array of samples spread over the patch. -/
theorem spread_at {α : Type} (h : (G3 n 1).BroadcastsInDim (G3 n 13) (![0, 1, 2] : Fin 3 → Fin 3)) (x : (G3 n 1).Idx → α) (r : Fin n) (s : Fin 64) (p : Fin 13) :
    broadcastInDim (G3 n 13) ![0, 1, 2] h x (ix3 r s p) = x (ix3 r s 0) :=
  broadcast_at _ _ _ _ _ fun a ha => match a with | ⟨0, _⟩ => rfl | ⟨1, _⟩ => rfl | ⟨2, _⟩ => (ha rfl).elim

/-- An array over the patch with a last axis of one. -/
theorem unit_at {α : Type} (h : (G3 n 13).BroadcastsInDim (G4 n 13 1) (![0, 1, 2] : Fin 3 → Fin 4)) (x : (G3 n 13).Idx → α) (r : Fin n) (s : Fin 64) (p : Fin 13) :
    broadcastInDim (G4 n 13 1) ![0, 1, 2] h x (ix4 r s p 0) = x (ix3 r s p) :=
  broadcast_at _ _ _ _ _ fun a _ => match a with | ⟨0, _⟩ => rfl | ⟨1, _⟩ => rfl | ⟨2, _⟩ => rfl

/-- An array with a unit axis dropped, read at an index. -/
theorem drop_at {α : Type} (x : (G4 n 13 1).Idx → α) (h : (G4 n 13 1).ShapeCasts (G3 n 13)) (r : Fin n) (s : Fin 64) (p : Fin 13) :
    shapeCast (G3 n 13) x h (ix3 r s p) = x (ix4 r s p 0) := by
  unfold shapeCast
  refine congrArg x (Shape.reshapeEquiv_eq_of_rowMajor h ?_)
  rw [Shape.rowMajor_val_three, Shape.rowMajor_val_four]
  simp

/-- Two arrays of one number per point put together, read at an index. -/
theorem pair_at {α : Type} (x y : (G4 n 13 1).Idx → α) (h : Shape.Concatenates [G4 n 13 1, G4 n 13 1] (G4 n 13 2) 3) (r : Fin n) (s : Fin 64) (p : Fin 13) :
    concatenate (G4 n 13 2) 3 [⟨G4 n 13 1, x⟩, ⟨G4 n 13 1, y⟩] h (ix4 r s p 0) = x (ix4 r s p 0)
      ∧ concatenate (G4 n 13 2) 3 [⟨G4 n 13 1, x⟩, ⟨G4 n 13 1, y⟩] h (ix4 r s p 1) = y (ix4 r s p 0) := by
  constructor <;> pointwise

/-- Two arrays of one number per sample put together, read at an index. -/
theorem both_at {α : Type} (x y : (G3 n 1).Idx → α) (h : Shape.Concatenates [G3 n 1, G3 n 1] (G3 n 2) 2) (r : Fin n) (s : Fin 64) :
    concatenate (G3 n 2) 2 [⟨G3 n 1, x⟩, ⟨G3 n 1, y⟩] h (ix3 r s 0) = x (ix3 r s 0)
      ∧ concatenate (G3 n 2) 2 [⟨G3 n 1, x⟩, ⟨G3 n 1, y⟩] h (ix3 r s 1) = y (ix3 r s 0) := by
  constructor <;> pointwise

/-! ## A group read at a sample -/

/-- The samples' two coordinates, side by side. -/
theorem samples_at (f : Fits n) (h w : FVec Ideal (G2 n) .f32) (r : Fin n) (s : Fin 64) :
    samples f h w (ix3 r s 0) = h (ix2 r s) ∧ samples f h w (ix3 r s 1) = w (ix2 r s) := by
  unfold samples
  exact ⟨(both_at _ _ _ r s).1.trans (lift_at _ _ r s), (both_at _ _ _ r s).2.trans (lift_at _ _ r s)⟩

/-- The points of a sample's patch. -/
theorem points_at (f : Fits n) (h w : FVec Ideal (G2 n) .f32) (O : FVec Ideal ⟨2, ![13, 2]⟩ .f32) (r : Fin n) (s : Fin 64) (p : Fin 13) :
    points f h w O (ix4 r s p 0) = near (h (ix2 r s)) + O (ix2 p 0) ∧ points f h w O (ix4 r s p 1) = near (w (ix2 r s)) + O (ix2 p 1) := by
  unfold points
  rw [addf_apply, addf_apply, spread2_at, lift2_at, spreadOffs_at, offs_at, spread2_at, lift2_at, spreadOffs_at, offs_at, Host.roundeven_apply, Host.roundeven_apply,
    (samples_at f h w r s).1, (samples_at f h w r s).2]
  exact ⟨rfl, rfl⟩

/-- The differences between a sample and a point of its patch, in both coordinates. -/
theorem gaps_at (f : Fits n) (h w : FVec Ideal (G2 n) .f32) (O : FVec Ideal ⟨2, ![13, 2]⟩ .f32) (r : Fin n) (s : Fin 64) (p : Fin 13) :
    gaps f h w O (ix4 r s p 0) = h (ix2 r s) - (near (h (ix2 r s)) + O (ix2 p 0))
      ∧ gaps f h w O (ix4 r s p 1) = w (ix2 r s) - (near (w (ix2 r s)) + O (ix2 p 1)) := by
  unfold gaps
  rw [subf_apply, subf_apply, spread2_at, lift2_at, spread2_at, lift2_at, (samples_at f h w r s).1, (samples_at f h w r s).2, (points_at f h w O r s p).1,
    (points_at f h w O r s p).2]
  exact ⟨rfl, rfl⟩

/-- The radius of a candidate, the same at all its points. -/
theorem radii_at (f : Fits n) (len : FVec Ideal ⟨1, ![n]⟩ .f32) (r : Fin n) (s : Fin 64) (p : Fin 13) :
    radii f len (ix3 r s p) = Ideal.ofBits .f32 0x3F3504F3#32 + Ideal.ofBits .f32 0x40000000#32 * len (ix1 r) := by
  unfold radii
  rw [spread_at, lift_at, rows_at, row_at]
  pointwise

/-- Is a point nearer to its sample than the radius? -/
theorem close_at (f : Fits n) (h w : FVec Ideal (G2 n) .f32) (len : FVec Ideal ⟨1, ![n]⟩ .f32) (O : FVec Ideal ⟨2, ![13, 2]⟩ .f32)
    (r : Fin n) (s : Fin 64) (p : Fin 13) :
    close f h w len O (ix3 r s p)
      = BitVec.ofBool (decide (Ideal.sqrt
          ((h (ix2 r s) - (near (h (ix2 r s)) + O (ix2 p 0))) * (h (ix2 r s) - (near (h (ix2 r s)) + O (ix2 p 0)))
            + (w (ix2 r s) - (near (w (ix2 r s)) + O (ix2 p 1))) * (w (ix2 r s) - (near (w (ix2 r s)) + O (ix2 p 1))))
          < Ideal.ofBits .f32 0x3F3504F3#32 + Ideal.ofBits .f32 0x40000000#32 * len (ix1 r))) := by
  unfold close
  pointwise
  simp only [Fin.sum_univ_two, gaps_at, radii_at]

/-- The index words of coordinates. -/
theorem words_at (f : Fits n) (x : FVec Ideal (G4 n 13 1) .f32) (r : Fin n) (s : Fin 64) (p : Fin 13) :
    words f (cuts f x) (ix3 r s p) = word (x (ix4 r s p 0)) := by
  have e : cuts f x (ix3 r s p)
      = FloatOps.fptosi (F := Ideal) (φ := .f32) 32 (min (FloatOps.sitofp (F := Ideal) .f32 511#32) (max (FloatOps.sitofp (F := Ideal) .f32 0#32) (x (ix4 r s p 0)))) := by
    rw [← drop_at x f.drop]
    unfold cuts
    generalize shapeCast (G3 n 13) x f.drop = y
    pointwise
  unfold words word
  rw [← e]
  pointwise

/-- The two index words of a point, side by side. -/
theorem pairs_at (f : Fits n) (h w : FVec Ideal (G2 n) .f32) (O : FVec Ideal ⟨2, ![13, 2]⟩ .f32) (r : Fin n) (s : Fin 64) (p : Fin 13) :
    pairs f h w O (ix4 r s p 0) = word (near (h (ix2 r s)) + O (ix2 p 0)) ∧ pairs f h w O (ix4 r s p 1) = word (near (w (ix2 r s)) + O (ix2 p 1)) := by
  unfold pairs
  rw [(pair_at _ _ _ r s p).1, (pair_at _ _ _ r s p).2, unit_at, unit_at, words_at, words_at, ← (points_at f h w O r s p).1, ← (points_at f h w O r s p).2]
  constructor <;> pointwise

/-- A group's feature at a sample of a candidate. The pairs of index words are used in the order of their last axis. -/
theorem group_at (f : Fits n) (d : GatherDims ⟨2, ![512, 512]⟩ (G4 n 13 2) (G3 n 13)) (hc : d.collapsedSliceDims = [0, 1])
    (hb : d.operandBatchingDims = []) (hm : d.startIndexMap = [0, 1])
    (hs : ∀ (r : Fin n) (s : Fin 64) (p : Fin 13) (q : Fin 2) (k : Fin _), k.val = q.val → d.siIdx (ix3 r s p) k = ix4 r s p q)
    (h w : FVec Ideal (G2 n) .f32) (len : FVec Ideal ⟨1, ![n]⟩ .f32)
    (O : FVec Ideal ⟨2, ![13, 2]⟩ .f32) (M : FVec Ideal ⟨2, ![512, 512]⟩ .f32) (r : Fin n) (s : Fin 64) :
    group f d h w len O M (ix2 r s)
      = feature M (fun p q => O (ix2 p q)) (h (ix2 r s)) (w (ix2 r s)) (Ideal.ofBits .f32 0x3F3504F3#32 + Ideal.ofBits .f32 0x40000000#32 * len (ix1 r)) := by
  unfold group
  pointwise
  simp only [gather_pair d hc hb hm _ _ _ _ _ (hs _ _ _ 0) (hs _ _ _ 1), pairs_at, close_at]
  rfl

end Cert.Wireframe
-- ==== Proof.Sizes.lean ====
module

public import proofs.«01_k».proof.Proof.Gen.KernelIdeal
public import Idealize.ShloMosaic.Lib.StableHlo.ReadAt
public import Idealize.ShloMosaic.Lib.Tactic
public import proofs.«01_k».proof.Proof.Group

@[expose] public section

noncomputable section

namespace Cert.Wireframe

open Idealize.ShloMosaic Idealize.ShloMosaic.StableHlo Cert.KernelIdeal Cert.KernelIdeal.Gen

/-! # The sizes of the kernel's groups -/

/-- The operations of a group of 10000 candidates fit their shapes. -/
theorem fits_long : Fits 10000 := by
  constructor <;> decide +kernel

/-- The operations of a group of 4850 candidates fit their shapes. -/
theorem fits_short : Fits 4850 := by
  constructor <;> decide +kernel

end Cert.Wireframe
-- ==== Proof.Parts.lean ====
module

public import proofs.«01_k».proof.Proof.Map
public import proofs.«01_k».proof.Proof.Sizes

@[expose] public section

noncomputable section

namespace Cert.Wireframe

open Idealize.ShloMosaic Idealize.ShloMosaic.StableHlo Cert.KernelIdeal Cert.KernelIdeal.Gen

/-! # The groups, put together, read at an index -/

/-- The place of a point's pair of index words, in a group of 10000. -/
theorem places_long (r : Fin 10000) (s : Fin 64) (p : Fin 13) (q : Fin 2) (k : Fin _) (hk : k.val = q.val) :
    gather_S512x512_S10000x64x13x2_S10000x64x13_n_01_n_n_01_3_11.siIdx (ix3 r s p) k = ix4 r s p q := by
  funext b
  apply Fin.ext
  match b with
  | ⟨0, _⟩ => rfl
  | ⟨1, _⟩ => rfl
  | ⟨2, _⟩ => rfl
  | ⟨3, _⟩ => exact hk

/-- The place of a point's pair of index words, in the group of 4850. -/
theorem places_short (r : Fin 4850) (s : Fin 64) (p : Fin 13) (q : Fin 2) (k : Fin _) (hk : k.val = q.val) :
    gather_S512x512_S4850x64x13x2_S4850x64x13_n_01_n_n_01_3_11.siIdx (ix3 r s p) k = ix4 r s p q := by
  funext b
  apply Fin.ext
  match b with
  | ⟨0, _⟩ => rfl
  | ⟨1, _⟩ => rfl
  | ⟨2, _⟩ => rfl
  | ⟨3, _⟩ => exact hk

/-- A slice of rows, read at an index. -/
theorem row_slice_at {α : Type} {n off : ℕ} (hn : off + n ≤ 44850) (x : S44850x64.Idx → α) (h : S44850x64.Slices ![off, 0] ⟨2, ![n, 64]⟩) (r : Fin n) (s : Fin 64) :
    extractStridedSlice ⟨2, ![n, 64]⟩ ![off, 0] x h (ix2 r s) = x (ix2 ⟨off + r.val, by omega⟩ s) := by
  unfold extractStridedSlice
  refine congrArg x (funext fun b => Fin.ext ?_)
  match b with
  | ⟨0, _⟩ => rfl
  | ⟨1, _⟩ => exact Nat.zero_add _

/-- A slice of a list, read at an index. -/
theorem item_slice_at {α : Type} {n off : ℕ} (hn : off + n ≤ 44850) (x : S44850.Idx → α) (h : S44850.Slices ![off] ⟨1, ![n]⟩) (r : Fin n) :
    extractStridedSlice ⟨1, ![n]⟩ ![off] x h (ix1 r) = x (ix1 ⟨off + r.val, by omega⟩) := by
  unfold extractStridedSlice
  refine congrArg x (funext fun b => Fin.ext ?_)
  match b with
  | ⟨0, _⟩ => rfl

/-- The features from the samples `H`, `L`, the relative lengths `N`, the offsets `O` and the heat map `M`, of sample `s` of candidate `k`. -/
def trait (H L : FVec Ideal S44850x64 .f32) (N : FVec Ideal S44850 .f32) (O : FVec Ideal S13x2 .f32) (M : FVec Ideal S512x512 .f32) (k : Fin 44850)
    (s : Fin 64) : EReal :=
  feature M (fun p q => O (ix2 p q)) (H (ix2 k s)) (L (ix2 k s)) (Ideal.ofBits .f32 0x3F3504F3#32 + Ideal.ofBits .f32 0x40000000#32 * N (ix1 k))

/-- A group of 10000 candidates from candidate `off` on. -/
theorem long_at {off : ℕ} (hn : off + 10000 ≤ 44850) (H L : FVec Ideal S44850x64 .f32) (N : FVec Ideal S44850 .f32) (O : FVec Ideal S13x2 .f32)
    (M : FVec Ideal S512x512 .f32) (h2 : S44850x64.Slices ![off, 0] S10000x64) (h1 : S44850.Slices ![off] S10000) (r : Fin 10000) (s : Fin 64) :
    group fits_long gather_S512x512_S10000x64x13x2_S10000x64x13_n_01_n_n_01_3_11 (extractStridedSlice S10000x64 ![off, 0] H h2)
        (extractStridedSlice S10000x64 ![off, 0] L h2) (extractStridedSlice S10000 ![off] N h1) O M (ix2 r s)
      = trait H L N O M ⟨off + r.val, by omega⟩ s := by
  rw [group_at fits_long _ rfl rfl rfl places_long, row_slice_at hn, row_slice_at hn, item_slice_at hn]
  rfl

/-- The group of 4850 candidates from candidate `off` on. -/
theorem short_at {off : ℕ} (hn : off + 4850 ≤ 44850) (H L : FVec Ideal S44850x64 .f32) (N : FVec Ideal S44850 .f32) (O : FVec Ideal S13x2 .f32)
    (M : FVec Ideal S512x512 .f32) (h2 : S44850x64.Slices ![off, 0] S4850x64) (h1 : S44850.Slices ![off] S4850) (r : Fin 4850) (s : Fin 64) :
    group fits_short gather_S512x512_S4850x64x13x2_S4850x64x13_n_01_n_n_01_3_11 (extractStridedSlice S4850x64 ![off, 0] H h2)
        (extractStridedSlice S4850x64 ![off, 0] L h2) (extractStridedSlice S4850 ![off] N h1) O M (ix2 r s)
      = trait H L N O M ⟨off + r.val, by omega⟩ s := by
  rw [group_at fits_short _ rfl rfl rfl places_short, row_slice_at hn, row_slice_at hn, item_slice_at hn]
  rfl

/-- The groups one after the other are all candidates' features `y`, if each group has its own candidates'. -/
theorem joined_at {x0 x1 x2 x3 : FVec Ideal S10000x64 .f32} {x4 : FVec Ideal S4850x64 .f32} {y : Fin 44850 → Fin 64 → EReal}
    (h0 : ∀ (r : Fin 10000) s, x0 (ix2 r s) = y ⟨0 + r.val, by omega⟩ s) (h1 : ∀ (r : Fin 10000) s, x1 (ix2 r s) = y ⟨10000 + r.val, by omega⟩ s)
    (h2 : ∀ (r : Fin 10000) s, x2 (ix2 r s) = y ⟨20000 + r.val, by omega⟩ s) (h3 : ∀ (r : Fin 10000) s, x3 (ix2 r s) = y ⟨30000 + r.val, by omega⟩ s)
    (h4 : ∀ (r : Fin 4850) s, x4 (ix2 r s) = y ⟨40000 + r.val, by omega⟩ s) (k : Fin 44850) (s : Fin 64) : joined x0 x1 x2 x3 x4 (ix2 k s) = y k s := by
  unfold joined
  pointwise
  have hk := k.isLt
  have e : ∀ {k' : Fin 44850}, k'.val = k.val → y k' s = y k s := fun h => congrArg (y · s) (Fin.ext h)
  split_ifs
  all_goals first
    | (rw [h0]; exact e (by dsimp only; omega))
    | (rw [h1]; exact e (by dsimp only; omega))
    | (rw [h2]; exact e (by dsimp only; omega))
    | (rw [h3]; exact e (by dsimp only; omega))
    | (rw [h4]; exact e (by dsimp only; omega))

/-- The verdict on a candidate, from its 64 features. -/
theorem decisions_at (y : FVec Ideal S44850x64 .f32) (k : Fin 44850) : decisions y (ix1 k) = found fun s => y (ix2 k s) := by
  unfold decisions found
  pointwise

/-- The relative lengths of the lines between the junctions in the rows of `x` and `y`. -/
theorem apart_at {x y : FVec Ideal S44850x2 .f32} {j : FVec Ideal S300x2 .f32} {a b : Fin 44850 → Fin 300}
    (hx : ∀ k q, x (ix2 k q) = j (ix2 (a k) q)) (hy : ∀ k q, y (ix2 k q) = j (ix2 (b k) q)) (k : Fin 44850) : apart x y k = length j (a k) (b k) := by
  unfold apart length
  simp only [hx, hy]

/-- The words of the offsets, written in the kernel as points and in the reference as two lists. -/
theorem offset_words : ∀ (p : Fin 13) (q : Fin 2),
    (lit2 ⟨p.val * 2 + q.val, by omega⟩ = if q = 0 then Cert.ReferenceIdeal.lit0 p else Cert.ReferenceIdeal.lit1 p)
      ∧ lit3 ⟨p.val * 2 + q.val, by omega⟩ = lit2 ⟨p.val * 2 + q.val, by omega⟩
      ∧ lit4 ⟨p.val * 2 + q.val, by omega⟩ = lit2 ⟨p.val * 2 + q.val, by omega⟩
      ∧ lit5 ⟨p.val * 2 + q.val, by omega⟩ = lit2 ⟨p.val * 2 + q.val, by omega⟩
      ∧ lit6 ⟨p.val * 2 + q.val, by omega⟩ = lit2 ⟨p.val * 2 + q.val, by omega⟩ := by
  decide +kernel

/-- The place of an offset in the list of all 26. -/
theorem point_number (p : Fin 13) (q : Fin 2) : S13x2.rowMajor (ix2 p q) = ⟨p.val * 2 + q.val, by show _ < 26; omega⟩ :=
  Fin.ext (Shape.rowMajor_val_two _)

end Cert.Wireframe
-- ==== Proof.First.lean ====
module

public import proofs.«01_k».proof.Proof.Gen.KernelIdeal.Launch
public import Idealize.ShloMosaic.Lib.StableHlo.ReadAt
public import Idealize.ShloMosaic.Lib.Tactic
public import proofs.«01_k».proof.Proof.Sizes

@[expose] public section

noncomputable section

namespace Cert.Wireframe

open Idealize.ShloMosaic Idealize.ShloMosaic.StableHlo Cert.KernelIdeal Cert.KernelIdeal.Gen

set_option maxRecDepth 16384 in
set_option maxHeartbeats 4000000 in
/-- The features of the first group: `group` of its 10000 candidates' rows. -/
theorem read_first (W : Valuation τ sig (Elt Ideal)) :
    StableHlo.after (List.flatten [hostOps0_6, hostOps0_7, hostOps0_8, hostOps0_9, hostOps0_10, hostOps0_11, hostOps0_12]) W (Proc.devRef .tc main_v97)
      = group fits_long gather_S512x512_S10000x64x13x2_S10000x64x13_n_01_n_n_01_3_11
          (extractStridedSlice S10000x64 ![0, 0] (W (Proc.devRef .tc main_v38)) slices_S44850x64_S10000x64_0_0)
          (extractStridedSlice S10000x64 ![0, 0] (W (Proc.devRef .tc main_v39)) slices_S44850x64_S10000x64_0_0)
          (extractStridedSlice S10000 ![0] (StableHlo.after (List.flatten [hostOps0_6, hostOps0_7, hostOps0_8, hostOps0_9, hostOps0_10, hostOps0_11, hostOps0_12]) W (Proc.devRef .tc main_v45)) slices_S44850_S10000_0)
          (W (Proc.devRef .tc main_cst)) (W (Proc.devRef .tc main_arg1)) := by
  after_reads_simp
  simp -implicitDefEqProofs only [StableHlo.TRef.toBuf, StableHlo.TRef.ofBuf, cast_cast, cast_eq]
  rfl

end Cert.Wireframe
-- ==== Proof.Second.lean ====
module

public import proofs.«01_k».proof.Proof.Gen.KernelIdeal.Launch
public import Idealize.ShloMosaic.Lib.StableHlo.ReadAt
public import Idealize.ShloMosaic.Lib.Tactic
public import proofs.«01_k».proof.Proof.Sizes

@[expose] public section

noncomputable section

namespace Cert.Wireframe

open Idealize.ShloMosaic Idealize.ShloMosaic.StableHlo Cert.KernelIdeal Cert.KernelIdeal.Gen

set_option maxRecDepth 16384 in
set_option maxHeartbeats 4000000 in
/-- The features of the second group: `group` of its 10000 candidates' rows. -/
theorem read_second (W : Valuation τ sig (Elt Ideal)) :
    StableHlo.after (List.flatten [hostOps0_12, hostOps0_13, hostOps0_14, hostOps0_15, hostOps0_16, hostOps0_17, hostOps0_18]) W (Proc.devRef .tc main_v149)
      = group fits_long gather_S512x512_S10000x64x13x2_S10000x64x13_n_01_n_n_01_3_11
          (extractStridedSlice S10000x64 ![10000, 0] (W (Proc.devRef .tc main_v38)) slices_S44850x64_S10000x64_10000_0)
          (extractStridedSlice S10000x64 ![10000, 0] (W (Proc.devRef .tc main_v39)) slices_S44850x64_S10000x64_10000_0)
          (extractStridedSlice S10000 ![10000] (W (Proc.devRef .tc main_v45)) slices_S44850_S10000_10000)
          (W (Proc.devRef .tc main_cst_1)) (W (Proc.devRef .tc main_arg1)) := by
  after_reads_simp
  simp -implicitDefEqProofs only [StableHlo.TRef.toBuf, StableHlo.TRef.ofBuf, cast_cast, cast_eq]
  rfl

end Cert.Wireframe
-- ==== Proof.Third.lean ====
module

public import proofs.«01_k».proof.Proof.Gen.KernelIdeal.Launch
public import Idealize.ShloMosaic.Lib.StableHlo.ReadAt
public import Idealize.ShloMosaic.Lib.Tactic
public import proofs.«01_k».proof.Proof.Sizes

@[expose] public section

noncomputable section

namespace Cert.Wireframe

open Idealize.ShloMosaic Idealize.ShloMosaic.StableHlo Cert.KernelIdeal Cert.KernelIdeal.Gen

set_option maxRecDepth 16384 in
set_option maxHeartbeats 4000000 in
/-- The features of the third group: `group` of its 10000 candidates' rows. -/
theorem read_third (W : Valuation τ sig (Elt Ideal)) :
    StableHlo.after (List.flatten [hostOps0_18, hostOps0_19, hostOps0_20, hostOps0_21, hostOps0_22, hostOps0_23, hostOps0_24]) W (Proc.devRef .tc main_v201)
      = group fits_long gather_S512x512_S10000x64x13x2_S10000x64x13_n_01_n_n_01_3_11
          (extractStridedSlice S10000x64 ![20000, 0] (W (Proc.devRef .tc main_v38)) slices_S44850x64_S10000x64_20000_0)
          (extractStridedSlice S10000x64 ![20000, 0] (W (Proc.devRef .tc main_v39)) slices_S44850x64_S10000x64_20000_0)
          (extractStridedSlice S10000 ![20000] (W (Proc.devRef .tc main_v45)) slices_S44850_S10000_20000)
          (W (Proc.devRef .tc main_cst_2)) (W (Proc.devRef .tc main_arg1)) := by
  after_reads_simp
  simp -implicitDefEqProofs only [StableHlo.TRef.toBuf, StableHlo.TRef.ofBuf, cast_cast, cast_eq]
  rfl

end Cert.Wireframe
-- ==== Proof.Fourth.lean ====
module

public import proofs.«01_k».proof.Proof.Gen.KernelIdeal.Launch
public import Idealize.ShloMosaic.Lib.StableHlo.ReadAt
public import Idealize.ShloMosaic.Lib.Tactic
public import proofs.«01_k».proof.Proof.Sizes

@[expose] public section

noncomputable section

namespace Cert.Wireframe

open Idealize.ShloMosaic Idealize.ShloMosaic.StableHlo Cert.KernelIdeal Cert.KernelIdeal.Gen

set_option maxRecDepth 16384 in
set_option maxHeartbeats 4000000 in
/-- The features of the fourth group: `group` of its 10000 candidates' rows. -/
theorem read_fourth (W : Valuation τ sig (Elt Ideal)) :
    StableHlo.after (List.flatten [hostOps0_24, hostOps0_25, hostOps0_26, hostOps0_27, hostOps0_28, hostOps0_29, hostOps0_30]) W (Proc.devRef .tc main_v253)
      = group fits_long gather_S512x512_S10000x64x13x2_S10000x64x13_n_01_n_n_01_3_11
          (extractStridedSlice S10000x64 ![30000, 0] (W (Proc.devRef .tc main_v38)) slices_S44850x64_S10000x64_30000_0)
          (extractStridedSlice S10000x64 ![30000, 0] (W (Proc.devRef .tc main_v39)) slices_S44850x64_S10000x64_30000_0)
          (extractStridedSlice S10000 ![30000] (W (Proc.devRef .tc main_v45)) slices_S44850_S10000_30000)
          (W (Proc.devRef .tc main_cst_3)) (W (Proc.devRef .tc main_arg1)) := by
  after_reads_simp
  simp -implicitDefEqProofs only [StableHlo.TRef.toBuf, StableHlo.TRef.ofBuf, cast_cast, cast_eq]
  rfl

end Cert.Wireframe
-- ==== Proof.Fifth.lean ====
module

public import proofs.«01_k».proof.Proof.Gen.KernelIdeal.Launch
public import Idealize.ShloMosaic.Lib.StableHlo.ReadAt
public import Idealize.ShloMosaic.Lib.Tactic
public import proofs.«01_k».proof.Proof.Sizes

@[expose] public section

noncomputable section

namespace Cert.Wireframe

open Idealize.ShloMosaic Idealize.ShloMosaic.StableHlo Cert.KernelIdeal Cert.KernelIdeal.Gen

set_option maxRecDepth 16384 in
set_option maxHeartbeats 4000000 in
/-- The features of the fifth group: `group` of its 4850 candidates' rows. -/
theorem read_fifth (W : Valuation τ sig (Elt Ideal)) :
    StableHlo.after (List.flatten [hostOps0_30, hostOps0_31, hostOps0_32, hostOps0_33, hostOps0_34, hostOps0_35, hostOps0_36]) W (Proc.devRef .tc main_v305)
      = group fits_short gather_S512x512_S4850x64x13x2_S4850x64x13_n_01_n_n_01_3_11
          (extractStridedSlice S4850x64 ![40000, 0] (W (Proc.devRef .tc main_v38)) slices_S44850x64_S4850x64_40000_0)
          (extractStridedSlice S4850x64 ![40000, 0] (W (Proc.devRef .tc main_v39)) slices_S44850x64_S4850x64_40000_0)
          (extractStridedSlice S4850 ![40000] (W (Proc.devRef .tc main_v45)) slices_S44850_S4850_40000)
          (W (Proc.devRef .tc main_cst_4)) (W (Proc.devRef .tc main_arg1)) := by
  after_reads_simp
  simp -implicitDefEqProofs only [StableHlo.TRef.toBuf, StableHlo.TRef.ofBuf, cast_cast, cast_eq]
  rfl

end Cert.Wireframe
-- ==== Proof.Whole.lean ====
module

public import proofs.«01_k».proof.Proof.Parts
public import proofs.«01_k».proof.Proof.First
public import proofs.«01_k».proof.Proof.Second
public import proofs.«01_k».proof.Proof.Third
public import proofs.«01_k».proof.Proof.Fourth
public import proofs.«01_k».proof.Proof.Fifth

@[expose] public section

noncomputable section

namespace Cert.Wireframe

open Idealize.ShloMosaic Idealize.ShloMosaic.StableHlo Cert.KernelIdeal Cert.KernelIdeal.Gen

/-! # The kernel's line map, from its arguments

`stage W n` is what the buffers hold after the first `n` lists of operations, `stage W 37` what they hold at the end. -/

/-- The lists of the kernel's operations. -/
def hosts : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]

/-- What the buffers hold after two lists of operations. -/
theorem after_both (l k : List (HloOp τ sig (Elt Ideal))) (W : Valuation τ sig (Elt Ideal)) : StableHlo.after (l ++ k) W = StableHlo.after k (StableHlo.after l W) := by
  induction l generalizing W with
  | nil => rfl
  | cons o l ih => exact ih _

/-- What the buffers hold after the first `n` lists of operations, run from the contents `W`. -/
def stage (W : Valuation τ sig (Elt Ideal)) (n : ℕ) : Valuation τ sig (Elt Ideal) := StableHlo.after (List.flatten (hosts.take n)) W

/-- From the first `n` lists on to the first `n + k`. -/
theorem stage_add (W : Valuation τ sig (Elt Ideal)) (n k : ℕ) : stage W (n + k) = StableHlo.after (List.flatten ((hosts.drop n).take k)) (stage W n) := by
  unfold stage
  rw [List.take_add, List.flatten_append, after_both]

variable (W : Valuation τ sig (Elt Ideal))

/-! `stage_i_j`: what the first `j` lists leave is what the lists from the `i`-th on leave, run from what the first `i` left. -/

theorem stage_0_1 : stage W 1 = StableHlo.after (List.flatten [hostOps0]) W := rfl
theorem stage_0_2 : stage W 2 = StableHlo.after (List.flatten [hostOps0, hostOps0_1]) W := rfl
theorem stage_1_2 : stage W 2 = StableHlo.after (List.flatten [hostOps0_1]) (stage W 1) := stage_add W 1 1
theorem stage_2_6 : stage W 6 = StableHlo.after (List.flatten [hostOps0_2, hostOps0_3, hostOps0_4, hostOps0_5]) (stage W 2) := stage_add W 2 4
theorem stage_1_37 : stage W 37 = StableHlo.after (List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) (stage W 1) := stage_add W 1 36
theorem stage_0_37 : stage W 37 = StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) W := rfl
theorem stage_6_13 : stage W 13 = StableHlo.after (List.flatten [hostOps0_6, hostOps0_7, hostOps0_8, hostOps0_9, hostOps0_10, hostOps0_11, hostOps0_12]) (stage W 6) := stage_add W 6 7
theorem stage_12_19 : stage W 19 = StableHlo.after (List.flatten [hostOps0_12, hostOps0_13, hostOps0_14, hostOps0_15, hostOps0_16, hostOps0_17, hostOps0_18]) (stage W 12) := stage_add W 12 7
theorem stage_18_25 : stage W 25 = StableHlo.after (List.flatten [hostOps0_18, hostOps0_19, hostOps0_20, hostOps0_21, hostOps0_22, hostOps0_23, hostOps0_24]) (stage W 18) := stage_add W 18 7
theorem stage_24_31 : stage W 31 = StableHlo.after (List.flatten [hostOps0_24, hostOps0_25, hostOps0_26, hostOps0_27, hostOps0_28, hostOps0_29, hostOps0_30]) (stage W 24) := stage_add W 24 7
theorem stage_30_37 : stage W 37 = StableHlo.after (List.flatten [hostOps0_30, hostOps0_31, hostOps0_32, hostOps0_33, hostOps0_34, hostOps0_35, hostOps0_36]) (stage W 30) := stage_add W 30 7
theorem stage_6_37 : stage W 37 = StableHlo.after (List.flatten [hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) (stage W 6) := stage_add W 6 31
theorem stage_12_37 : stage W 37 = StableHlo.after (List.flatten [hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) (stage W 12) := stage_add W 12 25
theorem stage_18_37 : stage W 37 = StableHlo.after (List.flatten [hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) (stage W 18) := stage_add W 18 19
theorem stage_24_37 : stage W 37 = StableHlo.after (List.flatten [hostOps0_24, hostOps0_25, hostOps0_26, hostOps0_27, hostOps0_28, hostOps0_29, hostOps0_30, hostOps0_31, hostOps0_32, hostOps0_33, hostOps0_34, hostOps0_35, hostOps0_36]) (stage W 24) := stage_add W 24 13
theorem stage_13_37 : stage W 37 = StableHlo.after (List.flatten [hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) (stage W 13) := stage_add W 13 24
theorem stage_19_37 : stage W 37 = StableHlo.after (List.flatten [hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) (stage W 19) := stage_add W 19 18
theorem stage_25_37 : stage W 37 = StableHlo.after (List.flatten [hostOps0_25, hostOps0_26, hostOps0_27, hostOps0_28, hostOps0_29, hostOps0_30, hostOps0_31, hostOps0_32, hostOps0_33, hostOps0_34, hostOps0_35, hostOps0_36]) (stage W 25) := stage_add W 25 12
theorem stage_31_37 : stage W 37 = StableHlo.after (List.flatten [hostOps0_31, hostOps0_32, hostOps0_33, hostOps0_34, hostOps0_35, hostOps0_36]) (stage W 31) := stage_add W 31 6
theorem stage_36_37 : stage W 37 = StableHlo.after (List.flatten [hostOps0_36]) (stage W 36) := stage_add W 36 1

/-! ## The constants -/

/-- The table of first junctions stays. -/
theorem table_starts : stage W 37 (Proc.devRef .tc main_c) = stage W 1 (Proc.devRef .tc main_c) := by
  rw [stage_1_37]; exact (kept_constants _).1

/-- The table of second junctions stays. -/
theorem table_ends : stage W 37 (Proc.devRef .tc main_c_0) = stage W 1 (Proc.devRef .tc main_c_0) := by
  rw [stage_1_37]; exact (kept_constants _).2.1

/-- The heat map stays. -/
theorem heatmap : stage W 37 (Proc.devRef .tc main_arg1) = W (Proc.devRef .tc main_arg1) := by
  rw [stage_0_37]; exact kept_heatmap W

/-- A table of offsets whose words are the reference's holds the reference's offsets. -/
theorem offset_of {l : Fin 26 → BitVec 32} {O : FVec Ideal S13x2 .f32} (h : O = fun i => FloatOps.ofBits .f32 (l (S13x2.rowMajor i)))
    (hl : ∀ (p : Fin 13) (q : Fin 2), l ⟨p.val * 2 + q.val, by omega⟩ = if q = 0 then Cert.ReferenceIdeal.lit0 p else Cert.ReferenceIdeal.lit1 p)
    (p : Fin 13) (q : Fin 2) : O (ix2 p q) = offset p q := by
  rw [h]
  exact congrArg (Ideal.ofBits .f32) ((congrArg l (point_number p q)).trans (hl p q))

/-- The first group's offsets. -/
theorem offsets_first (p : Fin 13) (q : Fin 2) : stage W 37 (Proc.devRef .tc main_cst) (ix2 p q) = offset p q := by
  have e : stage W 37 (Proc.devRef .tc main_cst) = stage W 1 (Proc.devRef .tc main_cst) := by
    rw [stage_1_37]; exact (kept_constants _).2.2.1
  rw [e, stage_0_1]
  exact offset_of (read_offsets W).1 (fun p q => (offset_words p q).1) p q

/-- The second group's offsets. -/
theorem offsets_second (p : Fin 13) (q : Fin 2) : stage W 37 (Proc.devRef .tc main_cst_1) (ix2 p q) = offset p q := by
  have e : stage W 37 (Proc.devRef .tc main_cst_1) = stage W 1 (Proc.devRef .tc main_cst_1) := by
    rw [stage_1_37]; exact (kept_constants _).2.2.2.1
  rw [e, stage_0_1]
  exact offset_of (read_offsets W).2.1 (fun p q => ((offset_words p q).2.1).trans (offset_words p q).1) p q

/-- The third group's offsets. -/
theorem offsets_third (p : Fin 13) (q : Fin 2) : stage W 37 (Proc.devRef .tc main_cst_2) (ix2 p q) = offset p q := by
  have e : stage W 37 (Proc.devRef .tc main_cst_2) = stage W 1 (Proc.devRef .tc main_cst_2) := by
    rw [stage_1_37]; exact (kept_constants _).2.2.2.2.1
  rw [e, stage_0_1]
  exact offset_of (read_offsets W).2.2.1 (fun p q => ((offset_words p q).2.2.1).trans (offset_words p q).1) p q

/-- The fourth group's offsets. -/
theorem offsets_fourth (p : Fin 13) (q : Fin 2) : stage W 37 (Proc.devRef .tc main_cst_3) (ix2 p q) = offset p q := by
  have e : stage W 37 (Proc.devRef .tc main_cst_3) = stage W 1 (Proc.devRef .tc main_cst_3) := by
    rw [stage_1_37]; exact (kept_constants _).2.2.2.2.2.1
  rw [e, stage_0_1]
  exact offset_of (read_offsets W).2.2.2.1 (fun p q => ((offset_words p q).2.2.2.1).trans (offset_words p q).1) p q

/-- The fifth group's offsets. -/
theorem offsets_fifth (p : Fin 13) (q : Fin 2) : stage W 37 (Proc.devRef .tc main_cst_4) (ix2 p q) = offset p q := by
  have e : stage W 37 (Proc.devRef .tc main_cst_4) = stage W 1 (Proc.devRef .tc main_cst_4) := by
    rw [stage_1_37]; exact (kept_constants _).2.2.2.2.2.2
  rw [e, stage_0_1]
  exact offset_of (read_offsets W).2.2.2.2 (fun p q => ((offset_words p q).2.2.2.2).trans (offset_words p q).1) p q

/-! ## The groups -/

/-- The features of the first group, from the samples, lengths, offsets and heat map at the end. -/
theorem whole_first (r : Fin 10000) (s : Fin 64) :
    stage W 37 (Proc.devRef .tc main_v97) (ix2 r s)
      = trait (stage W 37 (Proc.devRef .tc main_v38)) (stage W 37 (Proc.devRef .tc main_v39)) (stage W 37 (Proc.devRef .tc main_v45)) (stage W 37 (Proc.devRef .tc main_cst)) (stage W 37 (Proc.devRef .tc main_arg1)) ⟨0 + r.val, by omega⟩ s := by
  have e_v38 : stage W 37 (Proc.devRef .tc main_v38) = stage W 6 (Proc.devRef .tc main_v38) := by
    rw [stage_6_37]; exact (kept_first _).1
  have e_v39 : stage W 37 (Proc.devRef .tc main_v39) = stage W 6 (Proc.devRef .tc main_v39) := by
    rw [stage_6_37]; exact (kept_first _).2.1
  have e_v45 : stage W 37 (Proc.devRef .tc main_v45) = stage W 13 (Proc.devRef .tc main_v45) := by
    rw [stage_13_37]; exact (kept_first_done _).2
  have e_cst : stage W 37 (Proc.devRef .tc main_cst) = stage W 6 (Proc.devRef .tc main_cst) := by
    rw [stage_6_37]; exact (kept_first _).2.2.1
  have e_arg1 : stage W 37 (Proc.devRef .tc main_arg1) = stage W 6 (Proc.devRef .tc main_arg1) := by
    rw [stage_6_37]; exact (kept_first _).2.2.2
  have e_v97 : stage W 37 (Proc.devRef .tc main_v97) = stage W 13 (Proc.devRef .tc main_v97) := by
    rw [stage_13_37]; exact (kept_first_done _).1
  rw [e_v38, e_v39, e_v45, e_cst, e_arg1, e_v97, stage_6_13, read_first]
  exact long_at (by decide) _ _ _ _ _ _ _ r s

/-- The features of the second group, from the samples, lengths, offsets and heat map at the end. -/
theorem whole_second (r : Fin 10000) (s : Fin 64) :
    stage W 37 (Proc.devRef .tc main_v149) (ix2 r s)
      = trait (stage W 37 (Proc.devRef .tc main_v38)) (stage W 37 (Proc.devRef .tc main_v39)) (stage W 37 (Proc.devRef .tc main_v45)) (stage W 37 (Proc.devRef .tc main_cst_1)) (stage W 37 (Proc.devRef .tc main_arg1)) ⟨10000 + r.val, by omega⟩ s := by
  have e_v38 : stage W 37 (Proc.devRef .tc main_v38) = stage W 12 (Proc.devRef .tc main_v38) := by
    rw [stage_12_37]; exact (kept_second _).1
  have e_v39 : stage W 37 (Proc.devRef .tc main_v39) = stage W 12 (Proc.devRef .tc main_v39) := by
    rw [stage_12_37]; exact (kept_second _).2.1
  have e_v45 : stage W 37 (Proc.devRef .tc main_v45) = stage W 12 (Proc.devRef .tc main_v45) := by
    rw [stage_12_37]; exact (kept_second _).2.2.1
  have e_cst_1 : stage W 37 (Proc.devRef .tc main_cst_1) = stage W 12 (Proc.devRef .tc main_cst_1) := by
    rw [stage_12_37]; exact (kept_second _).2.2.2.1
  have e_arg1 : stage W 37 (Proc.devRef .tc main_arg1) = stage W 12 (Proc.devRef .tc main_arg1) := by
    rw [stage_12_37]; exact (kept_second _).2.2.2.2
  have e_v149 : stage W 37 (Proc.devRef .tc main_v149) = stage W 19 (Proc.devRef .tc main_v149) := by
    rw [stage_19_37]; exact kept_second_done _
  rw [e_v38, e_v39, e_v45, e_cst_1, e_arg1, e_v149, stage_12_19, read_second]
  exact long_at (by decide) _ _ _ _ _ _ _ r s

/-- The features of the third group, from the samples, lengths, offsets and heat map at the end. -/
theorem whole_third (r : Fin 10000) (s : Fin 64) :
    stage W 37 (Proc.devRef .tc main_v201) (ix2 r s)
      = trait (stage W 37 (Proc.devRef .tc main_v38)) (stage W 37 (Proc.devRef .tc main_v39)) (stage W 37 (Proc.devRef .tc main_v45)) (stage W 37 (Proc.devRef .tc main_cst_2)) (stage W 37 (Proc.devRef .tc main_arg1)) ⟨20000 + r.val, by omega⟩ s := by
  have e_v38 : stage W 37 (Proc.devRef .tc main_v38) = stage W 18 (Proc.devRef .tc main_v38) := by
    rw [stage_18_37]; exact (kept_third _).1
  have e_v39 : stage W 37 (Proc.devRef .tc main_v39) = stage W 18 (Proc.devRef .tc main_v39) := by
    rw [stage_18_37]; exact (kept_third _).2.1
  have e_v45 : stage W 37 (Proc.devRef .tc main_v45) = stage W 18 (Proc.devRef .tc main_v45) := by
    rw [stage_18_37]; exact (kept_third _).2.2.1
  have e_cst_2 : stage W 37 (Proc.devRef .tc main_cst_2) = stage W 18 (Proc.devRef .tc main_cst_2) := by
    rw [stage_18_37]; exact (kept_third _).2.2.2.1
  have e_arg1 : stage W 37 (Proc.devRef .tc main_arg1) = stage W 18 (Proc.devRef .tc main_arg1) := by
    rw [stage_18_37]; exact (kept_third _).2.2.2.2
  have e_v201 : stage W 37 (Proc.devRef .tc main_v201) = stage W 25 (Proc.devRef .tc main_v201) := by
    rw [stage_25_37]; exact kept_third_done _
  rw [e_v38, e_v39, e_v45, e_cst_2, e_arg1, e_v201, stage_18_25, read_third]
  exact long_at (by decide) _ _ _ _ _ _ _ r s

/-- The features of the fourth group, from the samples, lengths, offsets and heat map at the end. -/
theorem whole_fourth (r : Fin 10000) (s : Fin 64) :
    stage W 37 (Proc.devRef .tc main_v253) (ix2 r s)
      = trait (stage W 37 (Proc.devRef .tc main_v38)) (stage W 37 (Proc.devRef .tc main_v39)) (stage W 37 (Proc.devRef .tc main_v45)) (stage W 37 (Proc.devRef .tc main_cst_3)) (stage W 37 (Proc.devRef .tc main_arg1)) ⟨30000 + r.val, by omega⟩ s := by
  have e_v38 : stage W 37 (Proc.devRef .tc main_v38) = stage W 24 (Proc.devRef .tc main_v38) := by
    rw [stage_24_37]; exact (kept_fourth _).1
  have e_v39 : stage W 37 (Proc.devRef .tc main_v39) = stage W 24 (Proc.devRef .tc main_v39) := by
    rw [stage_24_37]; exact (kept_fourth _).2.1
  have e_v45 : stage W 37 (Proc.devRef .tc main_v45) = stage W 24 (Proc.devRef .tc main_v45) := by
    rw [stage_24_37]; exact (kept_fourth _).2.2.1
  have e_cst_3 : stage W 37 (Proc.devRef .tc main_cst_3) = stage W 24 (Proc.devRef .tc main_cst_3) := by
    rw [stage_24_37]; exact (kept_fourth _).2.2.2.1
  have e_arg1 : stage W 37 (Proc.devRef .tc main_arg1) = stage W 24 (Proc.devRef .tc main_arg1) := by
    rw [stage_24_37]; exact (kept_fourth _).2.2.2.2
  have e_v253 : stage W 37 (Proc.devRef .tc main_v253) = stage W 31 (Proc.devRef .tc main_v253) := by
    rw [stage_31_37]; exact kept_fourth_done _
  rw [e_v38, e_v39, e_v45, e_cst_3, e_arg1, e_v253, stage_24_31, read_fourth]
  exact long_at (by decide) _ _ _ _ _ _ _ r s

/-- The features of the fifth group, from the samples, lengths, offsets and heat map at the end. -/
theorem whole_fifth (r : Fin 4850) (s : Fin 64) :
    stage W 37 (Proc.devRef .tc main_v305) (ix2 r s)
      = trait (stage W 37 (Proc.devRef .tc main_v38)) (stage W 37 (Proc.devRef .tc main_v39)) (stage W 37 (Proc.devRef .tc main_v45)) (stage W 37 (Proc.devRef .tc main_cst_4)) (stage W 37 (Proc.devRef .tc main_arg1)) ⟨40000 + r.val, by omega⟩ s := by
  have e_v38 : stage W 37 (Proc.devRef .tc main_v38) = stage W 30 (Proc.devRef .tc main_v38) := by
    rw [stage_30_37]; exact (kept_fifth _).1
  have e_v39 : stage W 37 (Proc.devRef .tc main_v39) = stage W 30 (Proc.devRef .tc main_v39) := by
    rw [stage_30_37]; exact (kept_fifth _).2.1
  have e_v45 : stage W 37 (Proc.devRef .tc main_v45) = stage W 30 (Proc.devRef .tc main_v45) := by
    rw [stage_30_37]; exact (kept_fifth _).2.2.1
  have e_cst_4 : stage W 37 (Proc.devRef .tc main_cst_4) = stage W 30 (Proc.devRef .tc main_cst_4) := by
    rw [stage_30_37]; exact (kept_fifth _).2.2.2.1
  have e_arg1 : stage W 37 (Proc.devRef .tc main_arg1) = stage W 30 (Proc.devRef .tc main_arg1) := by
    rw [stage_30_37]; exact (kept_fifth _).2.2.2.2
  rw [e_v38, e_v39, e_v45, e_cst_4, e_arg1, stage_30_37, read_fifth]
  exact short_at (by decide) _ _ _ _ _ _ _ r s

/-! ## The candidates -/

section

variable {a b : Fin 44850 → Fin 300} (ha : ∀ k, lit0 k = BitVec.ofNat 32 (a k).val) (hb : ∀ k, lit1 k = BitVec.ofNat 32 (b k).val)

/-- A candidate's place in the list is its number. -/
theorem candidate_number (k : Fin 44850) : S44850.rowMajor (ix1 k) = k := Fin.ext (Shape.rowMajor_val_one _)

include ha in
/-- The table of first junctions holds the candidates' first junctions. -/
theorem starts_hold : Holds (stage W 1 (Proc.devRef .tc main_c)) a := fun k => by
  rw [stage_0_1, read_table_starts]
  exact (congrArg lit0 (candidate_number k)).trans (ha k)

include hb in
/-- The table of second junctions holds the candidates' second junctions. -/
theorem ends_hold : Holds (stage W 1 (Proc.devRef .tc main_c_0)) b := fun k => by
  rw [stage_0_1, read_table_ends]
  exact (congrArg lit1 (candidate_number k)).trans (hb k)

include ha in
/-- The candidates' starts. -/
theorem starts_at (k : Fin 44850) (q : Fin 2) : stage W 2 (Proc.devRef .tc main_v6) (ix2 k q) = W (Proc.devRef .tc main_arg0) (ix2 (a k) q) := by
  have e : stage W 2 (Proc.devRef .tc main_v6) = stage W 1 (Proc.devRef .tc main_v6) := by
    rw [stage_1_2]; exact (kept_picked' _).1
  have h := starts_hold W ha
  rw [e, stage_0_1, read_starts]
  rw [stage_0_1] at h
  exact picked_at h _ k q

include hb in
/-- The candidates' ends. -/
theorem ends_at (k : Fin 44850) (q : Fin 2) : stage W 2 (Proc.devRef .tc main_v13) (ix2 k q) = W (Proc.devRef .tc main_arg0) (ix2 (b k) q) := by
  have e : stage W 2 (Proc.devRef .tc main_v13) = stage W 1 (Proc.devRef .tc main_v13) := by
    rw [stage_1_2]; exact (kept_picked' _).2
  have h := ends_hold W hb
  rw [e, stage_0_1, read_ends]
  rw [stage_0_1] at h
  exact picked_at h _ k q

/-- The places of the samples. -/
theorem ticks_at : (fun s : Fin 64 => stage W 2 (Proc.devRef .tc main_v14) (ix1 s)) = tick := by
  rw [stage_0_2, read_ticks]
  rfl

include ha hb in
/-- The first coordinate of the candidates' samples. -/
theorem samples_h (k : Fin 44850) (s : Fin 64) :
    stage W 37 (Proc.devRef .tc main_v38) (ix2 k s)
      = spot tick (W (Proc.devRef .tc main_arg0) (ix2 (a k) 0)) (W (Proc.devRef .tc main_arg0) (ix2 (b k) 0)) s := by
  rw [stage_6_37, (kept_first _).1, stage_2_6, read_h, ticks_at, starts_at W ha, ends_at W hb]

include ha hb in
/-- The second coordinate of the candidates' samples. -/
theorem samples_w (k : Fin 44850) (s : Fin 64) :
    stage W 37 (Proc.devRef .tc main_v39) (ix2 k s)
      = spot tick (W (Proc.devRef .tc main_arg0) (ix2 (a k) 1)) (W (Proc.devRef .tc main_arg0) (ix2 (b k) 1)) s := by
  rw [stage_6_37, (kept_first _).2.1, stage_2_6, read_w, ticks_at, starts_at W ha, ends_at W hb]

include ha hb in
/-- The candidates' relative lengths. -/
theorem lengths_whole (k : Fin 44850) : stage W 37 (Proc.devRef .tc main_v45) (ix1 k) = length (W (Proc.devRef .tc main_arg0)) (a k) (b k) := by
  rw [stage_13_37, (kept_first_done _).2, stage_6_13, read_len, stage_2_6, (kept_picked _).1, (kept_picked _).2]
  exact apart_at (starts_at W ha) (ends_at W hb) k

include ha hb in
/-- A candidate's feature, from the samples, lengths, offsets and heat map at the end. -/
theorem trait_at {O : FVec Ideal S13x2 .f32} (hO : ∀ p q, O (ix2 p q) = offset p q) (k : Fin 44850) (s : Fin 64) :
    trait (stage W 37 (Proc.devRef .tc main_v38)) (stage W 37 (Proc.devRef .tc main_v39)) (stage W 37 (Proc.devRef .tc main_v45)) O
        (stage W 37 (Proc.devRef .tc main_arg1)) k s
      = feature (W (Proc.devRef .tc main_arg1)) offset
          (spot tick (W (Proc.devRef .tc main_arg0) (ix2 (a k) 0)) (W (Proc.devRef .tc main_arg0) (ix2 (b k) 0)) s)
          (spot tick (W (Proc.devRef .tc main_arg0) (ix2 (a k) 1)) (W (Proc.devRef .tc main_arg0) (ix2 (b k) 1)) s)
          (radius (W (Proc.devRef .tc main_arg0)) (a k) (b k)) := by
  unfold trait radius
  rw [samples_h W ha hb, samples_w W ha hb, lengths_whole W ha hb, heatmap]
  exact congrArg (fun o => feature _ o _ _ _) (funext fun p => funext fun q => hO p q)

/-! ## All candidates -/

/-- All candidates' features are the groups' one after the other. -/
theorem whole_features : stage W 37 (Proc.devRef .tc main_v306)
    = joined (stage W 37 (Proc.devRef .tc main_v97)) (stage W 37 (Proc.devRef .tc main_v149)) (stage W 37 (Proc.devRef .tc main_v201))
        (stage W 37 (Proc.devRef .tc main_v253)) (stage W 37 (Proc.devRef .tc main_v305)) := by
  rw [stage_36_37, read_features, (kept_end _).1, (kept_end _).2.1, (kept_end _).2.2.1, (kept_end _).2.2.2.1]

include ha hb in
/-- The verdicts on all candidates. -/
theorem whole_decisions (k : Fin 44850) :
    stage W 37 (Proc.devRef .tc main_v312) (ix1 k) = verdict (W (Proc.devRef .tc main_arg0)) (W (Proc.devRef .tc main_arg1)) offset tick (a k) (b k) := by
  have e : stage W 37 (Proc.devRef .tc main_v312) = decisions (stage W 37 (Proc.devRef .tc main_v306)) := by
    rw [stage_36_37]; exact read_decisions _
  rw [e, decisions_at, whole_features]
  unfold verdict
  refine congrArg found (funext fun s => ?_)
  exact joined_at
    (y := fun k s => feature (W (Proc.devRef .tc main_arg1)) offset
          (spot tick (W (Proc.devRef .tc main_arg0) (ix2 (a k) 0)) (W (Proc.devRef .tc main_arg0) (ix2 (b k) 0)) s)
          (spot tick (W (Proc.devRef .tc main_arg0) (ix2 (a k) 1)) (W (Proc.devRef .tc main_arg0) (ix2 (b k) 1)) s)
          (radius (W (Proc.devRef .tc main_arg0)) (a k) (b k)))
    (fun r s => (whole_first W r s).trans (trait_at W ha hb (offsets_first W) _ s))
    (fun r s => (whole_second W r s).trans (trait_at W ha hb (offsets_second W) _ s))
    (fun r s => (whole_third W r s).trans (trait_at W ha hb (offsets_third W) _ s))
    (fun r s => (whole_fourth W r s).trans (trait_at W ha hb (offsets_fourth W) _ s))
    (fun r s => (whole_fifth W r s).trans (trait_at W ha hb (offsets_fifth W) _ s)) k s

/-- The line map is the verdicts scattered by both tables, both ways round. -/
theorem whole_map : stage W 37 (Proc.devRef .tc main_v341)
    = Host.scatter scatter_S300x300_S44850x2_S44850_n_01_01_1 (fun _ b => b)
        (Host.scatter scatter_S300x300_S44850x2_S44850_n_01_01_1 (fun _ b => b) (broadcastInDim S300x300 ![] bcast_S_S300x300 (constantI S_ 32 0#32))
          (columns (stage W 37 (Proc.devRef .tc main_c)) (stage W 37 (Proc.devRef .tc main_c_0))) (stage W 37 (Proc.devRef .tc main_v312)))
        (columns (stage W 37 (Proc.devRef .tc main_c_0)) (stage W 37 (Proc.devRef .tc main_c))) (stage W 37 (Proc.devRef .tc main_v312)) := by
  rw [stage_36_37, read_map, read_places, read_places', (kept_end _).2.2.2.2.1, (kept_end _).2.2.2.2.2]

include ha hb in
/-- The line map at the end, where the tables list exactly the pairs `a < b`: the map of all lines. -/
theorem whole_at (hlt : ∀ k, a k < b k) (hall : ∀ i j : Fin 300, i < j → ∃ k, a k = i ∧ b k = j) (i j : Fin 300) :
    stage W 37 (Proc.devRef .tc main_v341) (ix2 i j)
      = lines (verdict (W (Proc.devRef .tc main_arg0)) (W (Proc.devRef .tc main_arg1)) offset tick) i j := by
  have hs := starts_hold W ha
  have he := ends_hold W hb
  rw [← table_starts] at hs
  rw [← table_ends] at he
  rw [whole_map]
  exact map_at hs he hlt hall _ _ (whole_decisions W ha hb) i j

end

end Cert.Wireframe
-- ==== Proof.Listing.lean ====
module

public import proofs.«01_k».proof.Proof.Gen.KernelIdeal
public import Idealize.ShloMosaic.Lib.Tactic

@[expose] public section

noncomputable section

namespace Cert.Wireframe

open Cert.KernelIdeal

/-! # The kernel's tables of candidates

The kernel lists the pairs `a < b` of the 300 junctions row by row, in two tables of 44850 words: candidate `k` is the pair of the words at `k`. -/

/-- The place of row `a`'s first pair in the list. -/
def first (a : ℕ) : ℕ := a * (599 - a) / 2

/-- Both tables hold row `a`'s pairs, in order, from the row's first place on. -/
def rowListed (a : ℕ) : Bool :=
  (List.range (299 - a)).all fun d => (lit0t (first a + d)).toNat == a && (lit1t (first a + d)).toNat == a + 1 + d

/-- The five rows from `a` on are listed. -/
def rowsListed (a : ℕ) : Bool := (List.range' a 5).all rowListed

end Cert.Wireframe
-- ==== Proof.RowsFirst.lean ====
module

public import proofs.«01_k».proof.Proof.Listing
import Mathlib.Tactic.FinCases

@[expose] public section

noncomputable section

namespace Cert.Wireframe

set_option maxHeartbeats 0 in
/-- The rows 0 … 44 are listed, by looking at the tables, five rows at a time. -/
theorem rows_first (g : Fin 9) : rowsListed (5 * g.val) = true := by
  fin_cases g <;> decide +kernel

end Cert.Wireframe
-- ==== Proof.RowsSecond.lean ====
module

public import proofs.«01_k».proof.Proof.Listing
import Mathlib.Tactic.FinCases

@[expose] public section

noncomputable section

namespace Cert.Wireframe

set_option maxHeartbeats 0 in
/-- The rows 45 … 94 are listed, by looking at the tables, five rows at a time. -/
theorem rows_second (g : Fin 10) : rowsListed (45 + 5 * g.val) = true := by
  fin_cases g <;> decide +kernel

end Cert.Wireframe
-- ==== Proof.RowsThird.lean ====
module

public import proofs.«01_k».proof.Proof.Listing
import Mathlib.Tactic.FinCases

@[expose] public section

noncomputable section

namespace Cert.Wireframe

set_option maxHeartbeats 0 in
/-- The rows 95 … 144 are listed, by looking at the tables, five rows at a time. -/
theorem rows_third (g : Fin 10) : rowsListed (95 + 5 * g.val) = true := by
  fin_cases g <;> decide +kernel

end Cert.Wireframe
-- ==== Proof.RowsFourth.lean ====
module

public import proofs.«01_k».proof.Proof.Listing
import Mathlib.Tactic.FinCases

@[expose] public section

noncomputable section

namespace Cert.Wireframe

set_option maxHeartbeats 0 in
/-- The rows 145 … 299 are listed, by looking at the tables, five rows at a time. -/
theorem rows_fourth (g : Fin 31) : rowsListed (145 + 5 * g.val) = true := by
  fin_cases g <;> decide +kernel

end Cert.Wireframe
-- ==== Proof.Tables.lean ====
module

public import proofs.«01_k».proof.Proof.RowsFirst
public import proofs.«01_k».proof.Proof.RowsSecond
public import proofs.«01_k».proof.Proof.RowsThird
public import proofs.«01_k».proof.Proof.RowsFourth

@[expose] public section

noncomputable section

namespace Cert.Wireframe

open Cert.KernelIdeal

/-! # The tables list exactly the pairs `a < b` of the 300 junctions -/

/-- Every five rows from a multiple of five on are listed. -/
theorem rows_listed (g : ℕ) (hg : g < 60) : rowsListed (5 * g) = true := by
  by_cases h1 : g < 9
  · exact rows_first ⟨g, h1⟩
  by_cases h2 : g < 19
  · have := rows_second ⟨g - 9, by omega⟩
    rwa [show 45 + 5 * (g - 9) = 5 * g by omega] at this
  by_cases h3 : g < 29
  · have := rows_third ⟨g - 19, by omega⟩
    rwa [show 95 + 5 * (g - 19) = 5 * g by omega] at this
  · have := rows_fourth ⟨g - 29, by omega⟩
    rwa [show 145 + 5 * (g - 29) = 5 * g by omega] at this

/-- The pair at the `d`-th place of row `a`. -/
theorem listed {a d : ℕ} (h : a + 1 + d < 300) : (lit0t (first a + d)).toNat = a ∧ (lit1t (first a + d)).toNat = a + 1 + d := by
  have ha := List.all_eq_true.mp (rows_listed (a / 5) (by omega)) a (List.mem_range'_1.mpr (by omega))
  have hd := List.all_eq_true.mp ha d (List.mem_range.mpr (by omega))
  simpa using hd

/-- Where the next row begins. -/
theorem first_succ {a : ℕ} (h : a < 299) : first (a + 1) = first a + (299 - a) := by
  unfold first
  have e : (a + 1) * (599 - (a + 1)) = a * (599 - a) + 2 * (299 - a) := by
    obtain ⟨b, hb⟩ : ∃ b, b + a = 299 := ⟨299 - a, Nat.sub_add_cancel (by omega)⟩
    have h1 : 599 - (a + 1) = 2 * b + a := by omega
    have h2 : 599 - a = 2 * b + a + 1 := by omega
    have h3 : 299 - a = b := by omega
    rw [h1, h2, h3]
    simp only [Nat.add_mul, Nat.mul_add]
    omega
  rw [e, Nat.add_mul_div_left _ _ (by decide)]

/-- Every place of the list is a place of some row. -/
theorem place (k : ℕ) (hk : k < 44850) : ∃ a d, a + 1 + d < 300 ∧ first a + d = k := by
  induction k with
  | zero => exact ⟨0, 0, by decide, rfl⟩
  | succ k ih =>
    obtain ⟨a, d, h, e⟩ := ih (by omega)
    by_cases hd : a + 1 + (d + 1) < 300
    · exact ⟨a, d + 1, hd, by omega⟩
    · have ha : a < 298 := by
        by_contra hn
        have : a = 298 := by omega
        subst this
        have : d = 0 := by omega
        subst this
        simp [first] at e
        omega
      exact ⟨a + 1, 0, by omega, by rw [first_succ (by omega)]; omega⟩

/-- Every pair of the list is a pair `a < b` of the 300 junctions. -/
theorem ordered (k : Fin 44850) : (lit0 k).toNat < (lit1 k).toNat ∧ (lit1 k).toNat < 300 := by
  obtain ⟨a, d, h, e⟩ := place k.val k.isLt
  have hl := listed h
  rw [e] at hl
  have h0 : (lit0 k).toNat = a := hl.1
  have h1 : (lit1 k).toNat = a + 1 + d := hl.2
  omega

/-- Every pair `a < b` of the 300 junctions is in the list. -/
theorem complete {a b : ℕ} (hab : a < b) (hb : b < 300) : ∃ k : Fin 44850, (lit0 k).toNat = a ∧ (lit1 k).toNat = b := by
  obtain ⟨d, rfl⟩ : ∃ d, b = a + 1 + d := ⟨b - a - 1, by omega⟩
  have hk : first a + d < 44850 := by
    have hf : ∀ a, a < 299 → first a + (299 - a) ≤ 44850 := by decide +kernel
    have := hf a (by omega)
    omega
  exact ⟨⟨first a + d, hk⟩, listed hb⟩

/-- Candidate `k`'s first junction. -/
def pairA (k : Fin 44850) : Fin 300 := ⟨(lit0 k).toNat, (ordered k).1.trans (ordered k).2⟩

/-- Candidate `k`'s second junction. -/
def pairB (k : Fin 44850) : Fin 300 := ⟨(lit1 k).toNat, (ordered k).2⟩

/-- A candidate's first junction is below its second. -/
theorem pair_lt (k : Fin 44850) : pairA k < pairB k := (ordered k).1

/-- Every pair `a < b` is some candidate's. -/
theorem pair_mem {a b : Fin 300} (h : a < b) : ∃ k, pairA k = a ∧ pairB k = b := by
  obtain ⟨k, h0, h1⟩ := complete h b.isLt
  exact ⟨k, Fin.ext h0, Fin.ext h1⟩

end Cert.Wireframe
-- ==== Proof.Result.lean ====
module

public import proofs.«01_k».proof.Proof.Whole
public import proofs.«01_k».proof.Proof.Tables
public import proofs.«01_k».proof.Proof.DenseAt
public import proofs.«01_k».proof.Proof.Gen.KernelIdeal.Value
public import Idealize.ShloMosaic.Lib.Pipeline.ValueKit.Geometry

@[expose] public section

noncomputable section

namespace Cert.Wireframe

open Idealize.ShloMosaic Idealize.ShloMosaic.StableHlo Cert.KernelIdeal Cert.KernelIdeal.Gen Cert.KernelIdeal.Value

/-! # The kernel's result -/

/-- The one block of the line map is the line map. -/
theorem block_eq (m : (ℓ : Loc nD τ sig) → Buf (Elt Ideal) ℓ) (c : Dev nD) (t : Fin cfg0.N) : iblk m c 0 t = V m c main_v341 := by
  unfold iblk
  generalize V m c = v
  funext j
  show v main_v341 _ = v main_v341 j
  refine congrArg (v main_v341) (funext fun a => Fin.ext ?_)
  match a with
  | ⟨0, _⟩ => show 0 + 1 * (j 0).val = (j 0).val; omega
  | ⟨1, _⟩ => show 0 + 1 * (j 1).val = (j 1).val; omega

/-- What the body leaves is what it is given. -/
theorem left_eq (x : Vec Ideal S300x300 .i32) : out0_1 x = x := by
  funext j
  unfold out0_1
  rw [canon1_eq]
  show View.ld x r0_0 _ = _
  refine congrArg x (funext fun a => Fin.ext ?_)
  match a with
  | ⟨0, _⟩ => show 0 + 1 * (j 0).val = (j 0).val; omega
  | ⟨1, _⟩ => show 0 + 1 * (j 1).val = (j 1).val; omega

/-- The region copies the line map to the result. -/
theorem copied (m : (ℓ : Loc nD τ sig) → Buf (Elt Ideal) ℓ) (c : Dev nD) : (dats m 0 c).arrAt 1 cfg0.N = V m c main_v341 := by
  have left : ∀ t : Fin cfg0.N, (dats m 0 c).after 1 t = V m c main_v341 := fun t =>
    (after0_1 m c t).trans ((left_eq _).trans (block_eq m c t))
  generalize V m c = v at left
  refine (dats m 0 c).arrAt_eq_of_after_last 1 ⟨0, by decide⟩ (by decide +kernel) _ fun j => ?_
  rw [left]
  blk_simp

/-- What the region finds is what the buffers hold after all lists of operations. -/
theorem found_eq (m : (ℓ : Loc nD τ sig) → Buf (Elt Ideal) ℓ) (c : Dev nD) (b : Ref sig .tc) :
    V m c b = stage (fun b => m (c, b)) 37 (Proc.devRef .tc b) := rfl

/-- The first table, in words, is the candidates' first junctions. -/
theorem firsts (k : Fin 44850) : lit0 k = BitVec.ofNat 32 (pairA k).val := by
  have h : (pairA k).val = (lit0 k).toNat := rfl
  rw [h]
  generalize lit0 k = w
  simp

/-- The second table, in words, is the candidates' second junctions. -/
theorem seconds (k : Fin 44850) : lit1 k = BitVec.ofNat 32 (pairB k).val := by
  have h : (pairB k).val = (lit1 k).toNat := rfl
  rw [h]
  generalize lit1 k = w
  simp

/-- The kernel's result at `(i, j)`: the map of all lines. -/
theorem kernel_at (m : (ℓ : Loc nD τ sig) → Buf (Elt Ideal) ℓ) (c : Dev nD) (i j : Fin 300) :
    ((dats m 0 c).arrAt 1 cfg0.N : IVec S300x300 32) (ix2 i j)
      = lines (verdict (m ((c.tc : Thread nD τ).loc main_arg0)) (m ((c.tc : Thread nD τ).loc main_arg1)) offset tick) i j :=
  (congrFun ((copied m c).trans (found_eq m c main_v341)) (ix2 i j)).trans
    (whole_at (fun b => m (c, b)) firsts seconds pair_lt (fun _ _ h => pair_mem h) i j)

/-- On equal arguments the reference's result is the kernel's. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1)) :
    Cert.ReferenceIdeal.Value.res_main_v107 m' c = (dats m 0 c).arrAt 1 cfg0.N := by
  funext x
  obtain ⟨i, j, rfl⟩ : ∃ i j : Fin 300, x = ix2 i j := ⟨x 0, x 1, eq_ix2 x⟩
  refine (result_at m' c i j).trans ?_
  rw [h0, h1]
  exact (kernel_at m c i j).symm

end Cert.Wireframe
-- ==== Proof.lean ====
/- The kernel's claims: both instances and the reference run and leave the junctions, the map and every semaphore as
   they were, and at exact arithmetic the kernel's line map is the reference's. The last is `results_eq` (Proof/Result.lean). -/
module

public import proofs.«01_k».proof.Defs
public import proofs.«01_k».proof.Proof.Result
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The reference runs, its arguments end unchanged, every semaphore ends at zero. -/
theorem reference_frame : Cert.quiescent_ReferenceIdeal (hReferenceIdeal := Cert.ReferenceIdeal.Gen.facts) := fun m ρ _ =>
  (θ_run Cert.ReferenceIdeal.defs _ _).mono
    (fun r h => ⟨fun c => ⟨(h c).2.1, (h c).2.2.1⟩, Idealize.ShloMosaic.sem_eq_zero_of_no_sems (by decide) r.2⟩)
    (Cert.ReferenceIdeal.Value.run m ρ)

/-- On equal arguments the kernel and the reference both run, and end with equal results. -/
theorem equal_results : Cert.algebraic_KernelIdeal_ReferenceIdeal (hKernelIdeal := Cert.KernelIdeal.Gen.facts)
    (hReferenceIdeal := Cert.ReferenceIdeal.Gen.facts) := fun m g m' g' _ hargs =>
  ⟨fun c => (Cert.KernelIdeal.Gen.dats m 0 c).arrAt 1 Cert.KernelIdeal.cfg0.N, fun c => m (c.tc.loc Cert.KernelIdeal.main_arg0),
    fun c => m (c.tc.loc Cert.KernelIdeal.main_arg1),
    (θ_run Cert.KernelIdeal.defs _ _).mono
      (fun _ h c => ⟨(h c).1, (h c).2.1, (h c).2.2, (h c).2.1, (h c).2.2⟩)
      (Cert.KernelIdeal.Value.run_blocks m g),
    (θ_run Cert.ReferenceIdeal.defs _ _).mono
      (fun _ h c => ⟨(h c).1.trans (Cert.Wireframe.results_eq m m' c (hargs c).1 (hargs c).2),
        (h c).2.1.trans (hargs c).1, (h c).2.2.1.trans (hargs c).2, (h c).2.1, (h c).2.2.1⟩)
      (Cert.ReferenceIdeal.Value.run m' g')⟩

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal_results⟩

end Cert.Proof

end
